-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Aggregate (m : (ℓ : Loc Cert.Aggregate.nD Cert.Aggregate.τ Cert.Aggregate.sig) → Buf (Elt Bits) ℓ) : Prop :=
  True

def Pre_AggregateIdeal (m : (ℓ : Loc Cert.AggregateIdeal.nD Cert.AggregateIdeal.τ Cert.AggregateIdeal.sig) → Buf (Elt Ideal) ℓ) : Prop :=
  True

def Pre_AggregateIdeal_finite_factors [hPre_finite_factors : Cert.Pre_finite_factors.Facts] (m : (ℓ : Loc Cert.AggregateIdeal.nD Cert.AggregateIdeal.τ Cert.AggregateIdeal.sig) → Buf (Elt Ideal) ℓ) : Prop :=
  ∀ c : Dev Cert.AggregateIdeal.nD,
    (Cert.Pre_finite_factors.fn (F := Ideal) (m ((c.tc : Thread Cert.AggregateIdeal.nD Cert.AggregateIdeal.τ).loc Cert.AggregateIdeal.main_arg0)) (m ((c.tc : Thread Cert.AggregateIdeal.nD Cert.AggregateIdeal.τ).loc Cert.AggregateIdeal.main_arg1)) (m ((c.tc : Thread Cert.AggregateIdeal.nD Cert.AggregateIdeal.τ).loc Cert.AggregateIdeal.main_arg2))) = (fun _ => 1#1)

def Pre_AggregateReferenceIdeal (m : (ℓ : Loc Cert.AggregateReferenceIdeal.nD Cert.AggregateReferenceIdeal.τ Cert.AggregateReferenceIdeal.sig) → Buf (Elt Ideal) ℓ) : Prop :=
  True

def Pre_AggregateReferenceIdeal_finite_factors [hPre_finite_factors : Cert.Pre_finite_factors.Facts] (m : (ℓ : Loc Cert.AggregateReferenceIdeal.nD Cert.AggregateReferenceIdeal.τ Cert.AggregateReferenceIdeal.sig) → Buf (Elt Ideal) ℓ) : Prop :=
  ∀ c : Dev Cert.AggregateReferenceIdeal.nD,
    (Cert.Pre_finite_factors.fn (F := Ideal) (m ((c.tc : Thread Cert.AggregateReferenceIdeal.nD Cert.AggregateReferenceIdeal.τ).loc Cert.AggregateReferenceIdeal.main_arg0)) (m ((c.tc : Thread Cert.AggregateReferenceIdeal.nD Cert.AggregateReferenceIdeal.τ).loc Cert.AggregateReferenceIdeal.main_arg1)) (m ((c.tc : Thread Cert.AggregateReferenceIdeal.nD Cert.AggregateReferenceIdeal.τ).loc Cert.AggregateReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Aggregate [hAggregate : Cert.Aggregate.Facts] : Prop :=
  ∀ (m : (ℓ : Loc Cert.Aggregate.nD Cert.Aggregate.τ Cert.Aggregate.sig) → Buf (Elt Bits) ℓ) (g : Dev Cert.Aggregate.nD → PrngReg), Pre_Aggregate m →
    θ_run (Cert.Aggregate.defs (F := Bits)) (onTc (τ := Cert.Aggregate.τ) (Cert.Aggregate.main (F := Bits))) ⟨m, fun _ => 0, g⟩ (fun r => (∀ c : Dev Cert.Aggregate.nD,
      r.2.mem ((c.tc : Thread Cert.Aggregate.nD Cert.Aggregate.τ).loc Cert.Aggregate.main_arg0) = m ((c.tc : Thread Cert.Aggregate.nD Cert.Aggregate.τ).loc Cert.Aggregate.main_arg0)
      ∧ r.2.mem ((c.tc : Thread Cert.Aggregate.nD Cert.Aggregate.τ).loc Cert.Aggregate.main_arg1) = m ((c.tc : Thread Cert.Aggregate.nD Cert.Aggregate.τ).loc Cert.Aggregate.main_arg1)
      ∧ r.2.mem ((c.tc : Thread Cert.Aggregate.nD Cert.Aggregate.τ).loc Cert.Aggregate.main_arg2) = m ((c.tc : Thread Cert.Aggregate.nD Cert.Aggregate.τ).loc Cert.Aggregate.main_arg2))
      ∧ r.2.sem = fun _ => 0)

def quiescent_AggregateIdeal [hAggregateIdeal : Cert.AggregateIdeal.Facts] : Prop :=
  ∀ (m : (ℓ : Loc Cert.AggregateIdeal.nD Cert.AggregateIdeal.τ Cert.AggregateIdeal.sig) → Buf (Elt Ideal) ℓ) (g : Dev Cert.AggregateIdeal.nD → PrngReg), Pre_AggregateIdeal m →
    θ_run (Cert.AggregateIdeal.defs (F := Ideal)) (onTc (τ := Cert.AggregateIdeal.τ) (Cert.AggregateIdeal.main (F := Ideal))) ⟨m, fun _ => 0, g⟩ (fun r => (∀ c : Dev Cert.AggregateIdeal.nD,
      r.2.mem ((c.tc : Thread Cert.AggregateIdeal.nD Cert.AggregateIdeal.τ).loc Cert.AggregateIdeal.main_arg0) = m ((c.tc : Thread Cert.AggregateIdeal.nD Cert.AggregateIdeal.τ).loc Cert.AggregateIdeal.main_arg0)
      ∧ r.2.mem ((c.tc : Thread Cert.AggregateIdeal.nD Cert.AggregateIdeal.τ).loc Cert.AggregateIdeal.main_arg1) = m ((c.tc : Thread Cert.AggregateIdeal.nD Cert.AggregateIdeal.τ).loc Cert.AggregateIdeal.main_arg1)
      ∧ r.2.mem ((c.tc : Thread Cert.AggregateIdeal.nD Cert.AggregateIdeal.τ).loc Cert.AggregateIdeal.main_arg2) = m ((c.tc : Thread Cert.AggregateIdeal.nD Cert.AggregateIdeal.τ).loc Cert.AggregateIdeal.main_arg2))
      ∧ r.2.sem = fun _ => 0)

def quiescent_AggregateIdeal_pre_finite_factors [hAggregateIdeal : Cert.AggregateIdeal.Facts] [hPre_finite_factors : Cert.Pre_finite_factors.Facts] : Prop :=
  ∀ (m : (ℓ : Loc Cert.AggregateIdeal.nD Cert.AggregateIdeal.τ Cert.AggregateIdeal.sig) → Buf (Elt Ideal) ℓ) (g : Dev Cert.AggregateIdeal.nD → PrngReg), Pre_AggregateIdeal_finite_factors m →
    θ_run (Cert.AggregateIdeal.defs (F := Ideal)) (onTc (τ := Cert.AggregateIdeal.τ) (Cert.AggregateIdeal.main (F := Ideal))) ⟨m, fun _ => 0, g⟩ (fun r => (∀ c : Dev Cert.AggregateIdeal.nD,
      r.2.mem ((c.tc : Thread Cert.AggregateIdeal.nD Cert.AggregateIdeal.τ).loc Cert.AggregateIdeal.main_arg0) = m ((c.tc : Thread Cert.AggregateIdeal.nD Cert.AggregateIdeal.τ).loc Cert.AggregateIdeal.main_arg0)
      ∧ r.2.mem ((c.tc : Thread Cert.AggregateIdeal.nD Cert.AggregateIdeal.τ).loc Cert.AggregateIdeal.main_arg1) = m ((c.tc : Thread Cert.AggregateIdeal.nD Cert.AggregateIdeal.τ).loc Cert.AggregateIdeal.main_arg1)
      ∧ r.2.mem ((c.tc : Thread Cert.AggregateIdeal.nD Cert.AggregateIdeal.τ).loc Cert.AggregateIdeal.main_arg2) = m ((c.tc : Thread Cert.AggregateIdeal.nD Cert.AggregateIdeal.τ).loc Cert.AggregateIdeal.main_arg2))
      ∧ r.2.sem = fun _ => 0)

def quiescent_AggregateReferenceIdeal [hAggregateReferenceIdeal : Cert.AggregateReferenceIdeal.Facts] : Prop :=
  ∀ (m : (ℓ : Loc Cert.AggregateReferenceIdeal.nD Cert.AggregateReferenceIdeal.τ Cert.AggregateReferenceIdeal.sig) → Buf (Elt Ideal) ℓ) (g : Dev Cert.AggregateReferenceIdeal.nD → PrngReg), Pre_AggregateReferenceIdeal m →
    θ_run (Cert.AggregateReferenceIdeal.defs (F := Ideal)) (onTc (τ := Cert.AggregateReferenceIdeal.τ) (Cert.AggregateReferenceIdeal.main (F := Ideal))) ⟨m, fun _ => 0, g⟩ (fun r => (∀ c : Dev Cert.AggregateReferenceIdeal.nD,
      r.2.mem ((c.tc : Thread Cert.AggregateReferenceIdeal.nD Cert.AggregateReferenceIdeal.τ).loc Cert.AggregateReferenceIdeal.main_arg0) = m ((c.tc : Thread Cert.AggregateReferenceIdeal.nD Cert.AggregateReferenceIdeal.τ).loc Cert.AggregateReferenceIdeal.main_arg0)
      ∧ r.2.mem ((c.tc : Thread Cert.AggregateReferenceIdeal.nD Cert.AggregateReferenceIdeal.τ).loc Cert.AggregateReferenceIdeal.main_arg1) = m ((c.tc : Thread Cert.AggregateReferenceIdeal.nD Cert.AggregateReferenceIdeal.τ).loc Cert.AggregateReferenceIdeal.main_arg1)
      ∧ r.2.mem ((c.tc : Thread Cert.AggregateReferenceIdeal.nD Cert.AggregateReferenceIdeal.τ).loc Cert.AggregateReferenceIdeal.main_arg2) = m ((c.tc : Thread Cert.AggregateReferenceIdeal.nD Cert.AggregateReferenceIdeal.τ).loc Cert.AggregateReferenceIdeal.main_arg2))
      ∧ r.2.sem = fun _ => 0)

def quiescent_AggregateReferenceIdeal_pre_finite_factors [hAggregateReferenceIdeal : Cert.AggregateReferenceIdeal.Facts] [hPre_finite_factors : Cert.Pre_finite_factors.Facts] : Prop :=
  ∀ (m : (ℓ : Loc Cert.AggregateReferenceIdeal.nD Cert.AggregateReferenceIdeal.τ Cert.AggregateReferenceIdeal.sig) → Buf (Elt Ideal) ℓ) (g : Dev Cert.AggregateReferenceIdeal.nD → PrngReg), Pre_AggregateReferenceIdeal_finite_factors m →
    θ_run (Cert.AggregateReferenceIdeal.defs (F := Ideal)) (onTc (τ := Cert.AggregateReferenceIdeal.τ) (Cert.AggregateReferenceIdeal.main (F := Ideal))) ⟨m, fun _ => 0, g⟩ (fun r => (∀ c : Dev Cert.AggregateReferenceIdeal.nD,
      r.2.mem ((c.tc : Thread Cert.AggregateReferenceIdeal.nD Cert.AggregateReferenceIdeal.τ).loc Cert.AggregateReferenceIdeal.main_arg0) = m ((c.tc : Thread Cert.AggregateReferenceIdeal.nD Cert.AggregateReferenceIdeal.τ).loc Cert.AggregateReferenceIdeal.main_arg0)
      ∧ r.2.mem ((c.tc : Thread Cert.AggregateReferenceIdeal.nD Cert.AggregateReferenceIdeal.τ).loc Cert.AggregateReferenceIdeal.main_arg1) = m ((c.tc : Thread Cert.AggregateReferenceIdeal.nD Cert.AggregateReferenceIdeal.τ).loc Cert.AggregateReferenceIdeal.main_arg1)
      ∧ r.2.mem ((c.tc : Thread Cert.AggregateReferenceIdeal.nD Cert.AggregateReferenceIdeal.τ).loc Cert.AggregateReferenceIdeal.main_arg2) = m ((c.tc : Thread Cert.AggregateReferenceIdeal.nD Cert.AggregateReferenceIdeal.τ).loc Cert.AggregateReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Aggregate_AggregateIdeal : Prop :=
  True

def algebraic_AggregateIdeal_AggregateReferenceIdeal_pre_finite_factors [hAggregateIdeal : Cert.AggregateIdeal.Facts] [hAggregateReferenceIdeal : Cert.AggregateReferenceIdeal.Facts] [hPre_finite_factors : Cert.Pre_finite_factors.Facts] : Prop :=
  ∀ (m : (ℓ : Loc Cert.AggregateIdeal.nD Cert.AggregateIdeal.τ Cert.AggregateIdeal.sig) → Buf (Elt Ideal) ℓ) (g : Dev Cert.AggregateIdeal.nD → PrngReg)
    (m' : (ℓ : Loc Cert.AggregateReferenceIdeal.nD Cert.AggregateReferenceIdeal.τ Cert.AggregateReferenceIdeal.sig) → Buf (Elt Ideal) ℓ) (g' : Dev Cert.AggregateReferenceIdeal.nD → PrngReg), Pre_AggregateIdeal_finite_factors m →
    (∀ c : Dev Cert.AggregateIdeal.nD,
      m' ((c.tc : Thread Cert.AggregateReferenceIdeal.nD Cert.AggregateReferenceIdeal.τ).loc Cert.AggregateReferenceIdeal.main_arg0) = m ((c.tc : Thread Cert.AggregateIdeal.nD Cert.AggregateIdeal.τ).loc Cert.AggregateIdeal.main_arg0)
      ∧ m' ((c.tc : Thread Cert.AggregateReferenceIdeal.nD Cert.AggregateReferenceIdeal.τ).loc Cert.AggregateReferenceIdeal.main_arg1) = m ((c.tc : Thread Cert.AggregateIdeal.nD Cert.AggregateIdeal.τ).loc Cert.AggregateIdeal.main_arg1)
      ∧ m' ((c.tc : Thread Cert.AggregateReferenceIdeal.nD Cert.AggregateReferenceIdeal.τ).loc Cert.AggregateReferenceIdeal.main_arg2) = m ((c.tc : Thread Cert.AggregateIdeal.nD Cert.AggregateIdeal.τ).loc Cert.AggregateIdeal.main_arg2)) →
    ∃ (v0 : (c : Dev Cert.AggregateIdeal.nD) → Buf (Elt Ideal) ((c.tc : Thread Cert.AggregateIdeal.nD Cert.AggregateIdeal.τ).loc Cert.AggregateIdeal.main_v1)),
      θ_run (Cert.AggregateIdeal.defs (F := Ideal)) (onTc (τ := Cert.AggregateIdeal.τ) (Cert.AggregateIdeal.main (F := Ideal))) ⟨m, fun _ => 0, g⟩ (fun r => ∀ c : Dev Cert.AggregateIdeal.nD,
          r.2.mem ((c.tc : Thread Cert.AggregateIdeal.nD Cert.AggregateIdeal.τ).loc Cert.AggregateIdeal.main_v1) = v0 c
          ∧ r.2.mem ((c.tc : Thread Cert.AggregateIdeal.nD Cert.AggregateIdeal.τ).loc Cert.AggregateIdeal.main_arg0) = m ((c.tc : Thread Cert.AggregateIdeal.nD Cert.AggregateIdeal.τ).loc Cert.AggregateIdeal.main_arg0)
          ∧ r.2.mem ((c.tc : Thread Cert.AggregateIdeal.nD Cert.AggregateIdeal.τ).loc Cert.AggregateIdeal.main_arg1) = m ((c.tc : Thread Cert.AggregateIdeal.nD Cert.AggregateIdeal.τ).loc Cert.AggregateIdeal.main_arg1)
          ∧ r.2.mem ((c.tc : Thread Cert.AggregateIdeal.nD Cert.AggregateIdeal.τ).loc Cert.AggregateIdeal.main_arg2) = m ((c.tc : Thread Cert.AggregateIdeal.nD Cert.AggregateIdeal.τ).loc Cert.AggregateIdeal.main_arg2))
      ∧ θ_run (Cert.AggregateReferenceIdeal.defs (F := Ideal)) (onTc (τ := Cert.AggregateReferenceIdeal.τ) (Cert.AggregateReferenceIdeal.main (F := Ideal))) ⟨m', fun _ => 0, g'⟩ (fun r => ∀ c : Dev Cert.AggregateReferenceIdeal.nD,
          r.2.mem ((c.tc : Thread Cert.AggregateReferenceIdeal.nD Cert.AggregateReferenceIdeal.τ).loc Cert.AggregateReferenceIdeal.main_v7) = v0 c
          ∧ r.2.mem ((c.tc : Thread Cert.AggregateReferenceIdeal.nD Cert.AggregateReferenceIdeal.τ).loc Cert.AggregateReferenceIdeal.main_arg0) = m' ((c.tc : Thread Cert.AggregateReferenceIdeal.nD Cert.AggregateReferenceIdeal.τ).loc Cert.AggregateReferenceIdeal.main_arg0)
          ∧ r.2.mem ((c.tc : Thread Cert.AggregateReferenceIdeal.nD Cert.AggregateReferenceIdeal.τ).loc Cert.AggregateReferenceIdeal.main_arg1) = m' ((c.tc : Thread Cert.AggregateReferenceIdeal.nD Cert.AggregateReferenceIdeal.τ).loc Cert.AggregateReferenceIdeal.main_arg1)
          ∧ r.2.mem ((c.tc : Thread Cert.AggregateReferenceIdeal.nD Cert.AggregateReferenceIdeal.τ).loc Cert.AggregateReferenceIdeal.main_arg2) = m' ((c.tc : Thread Cert.AggregateReferenceIdeal.nD Cert.AggregateReferenceIdeal.τ).loc Cert.AggregateReferenceIdeal.main_arg2))

def Claim : Prop :=
  ∃ (hKernel : Cert.Kernel.Facts) (hKernelIdeal : Cert.KernelIdeal.Facts) (hReferenceIdeal : Cert.ReferenceIdeal.Facts) (hAggregate : Cert.Aggregate.Facts) (hAggregateIdeal : Cert.AggregateIdeal.Facts) (hAggregateReferenceIdeal : Cert.AggregateReferenceIdeal.Facts) (hPre_finite : Cert.Pre_finite.Facts) (hPre_finite_factors : Cert.Pre_finite_factors.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Aggregate (hAggregate := hAggregate)
    ∧ quiescent_AggregateIdeal (hAggregateIdeal := hAggregateIdeal)
    ∧ quiescent_AggregateIdeal_pre_finite_factors (hAggregateIdeal := hAggregateIdeal) (hPre_finite_factors := hPre_finite_factors)
    ∧ quiescent_AggregateReferenceIdeal (hAggregateReferenceIdeal := hAggregateReferenceIdeal)
    ∧ quiescent_AggregateReferenceIdeal_pre_finite_factors (hAggregateReferenceIdeal := hAggregateReferenceIdeal) (hPre_finite_factors := hPre_finite_factors)
    ∧ preserves_Kernel_KernelIdeal
    ∧ algebraic_KernelIdeal_ReferenceIdeal_pre_finite (hKernelIdeal := hKernelIdeal) (hReferenceIdeal := hReferenceIdeal) (hPre_finite := hPre_finite)
    ∧ preserves_Aggregate_AggregateIdeal
    ∧ algebraic_AggregateIdeal_AggregateReferenceIdeal_pre_finite_factors (hAggregateIdeal := hAggregateIdeal) (hAggregateReferenceIdeal := hAggregateReferenceIdeal) (hPre_finite_factors := hPre_finite_factors)
-- ==== Pre_finite.lean ====
abbrev S1536x1024 : Shape := ⟨2, ![1536, 1024]⟩
abbrev S4x1024x640 : Shape := ⟨3, ![4, 1024, 640]⟩
abbrev S4x640 : Shape := ⟨2, ![4, 640]⟩
abbrev S1024x640 : Shape := ⟨2, ![1024, 640]⟩
abbrev S640 : Shape := ⟨1, ![640]⟩
abbrev S_ : Shape := ⟨0, ![]⟩

class Facts : Prop where
  bitsLt_bf16_f32 : FTy.bits .bf16 < FTy.bits .f32
  bcast_S_S1536x1024 : S_.BroadcastsInDim S1536x1024 (![] : Fin 0 → Fin S1536x1024.rank)

variable [Facts]

def fn {F : FTy → Type} [FloatOps F] (main_arg0 : FVec F S1536x1024 .bf16) (main_arg1 : FVec F S4x1024x640 .fp8e4m3) (main_arg2 : FVec F S4x640 .f32) (main_arg3 : FVec F S1024x640 .fp8e4m3) (main_arg4 : FVec F S640 .f32) : IVec S1536x1024 1 :=
  let main_v0 : FVec F S1536x1024 .f32 := (extf .f32 · bitsLt_bf16_f32) main_arg0
  let main_v1 : FVec F S1536x1024 .f32 := Host.absf main_v0
  let main_cst : FVec F S_ .f32 := constant S_ .f32 0x7F7F0000#32
  let main_v2 : FVec F S1536x1024 .f32 := broadcastInDim S1536x1024 ![] bcast_S_S1536x1024 main_cst
  let main_v3 : IVec S1536x1024 1 := cmpf .ole main_v1 main_v2
  main_v3
-- ==== Pre_finite_factors.lean ====
abbrev S1572864 : Shape := ⟨1, ![1572864]⟩
abbrev S6x4x256x640 : Shape := ⟨4, ![6, 4, 256, 640]⟩
abbrev S1536x640 : Shape := ⟨2, ![1536, 640]⟩
abbrev S3932160 : Shape := ⟨1, ![3932160]⟩
abbrev S5505024 : Shape := ⟨1, ![5505024]⟩
abbrev S_ : Shape := ⟨0, ![]⟩

class Facts : Prop where
  shapeCasts_S6x4x256x640_S3932160 : S6x4x256x640.ShapeCasts S3932160
  concatenates_S1572864_S3932160_S5505024_d0 : Shape.Concatenates [S1572864, S3932160] S5505024 0
  bcast_S_S5505024 : S_.BroadcastsInDim S5505024 (![] : Fin 0 → Fin S5505024.rank)

variable [Facts]

def fn {F : FTy → Type} [FloatOps F] (main_arg0 : FVec F S1572864 .f32) (main_arg1 : FVec F S6x4x256x640 .f32) (main_arg2 : FVec F S1536x640 .f32) : IVec S5505024 1 :=
  let main_v0 : FVec F S3932160 .f32 := shapeCast S3932160 main_arg1 shapeCasts_S6x4x256x640_S3932160
  let main_v1 : FVec F S5505024 .f32 := (fun a b => concatenate S5505024 0 [⟨S1572864, a⟩, ⟨S3932160, b⟩] concatenates_S1572864_S3932160_S5505024_d0) main_arg0 main_v0
  let main_v2 : FVec F S5505024 .f32 := Host.absf main_v1
  let main_cst : FVec F S_ .f32 := constant S_ .f32 0x7F800000#32
  let main_v3 : FVec F S5505024 .f32 := broadcastInDim S5505024 ![] bcast_S_S5505024 main_cst
  let main_v4 : IVec S5505024 1 := cmpf .olt main_v2 main_v3
  main_v4
-- ==== Kernel.lean ====
abbrev S1536x1024 : Shape := ⟨2, ![1536, 1024]⟩
abbrev S4x1024x640 : Shape := ⟨3, ![4, 1024, 640]⟩
abbrev S4x640 : Shape := ⟨2, ![4, 640]⟩
abbrev S1024x640 : Shape := ⟨2, ![1024, 640]⟩
abbrev S640 : Shape := ⟨1, ![640]⟩
abbrev S1x640 : Shape := ⟨2, ![1, 640]⟩
abbrev S1536x8 : Shape := ⟨2, ![1536, 8]⟩
abbrev S6x4x256x640 : Shape := ⟨4, ![6, 4, 256, 640]⟩
abbrev S1536x640 : Shape := ⟨2, ![1536, 640]⟩
abbrev S256x1024 : Shape := ⟨2, ![256, 1024]⟩
abbrev S256x8 : Shape := ⟨2, ![256, 8]⟩
abbrev S1x4x256x640 : Shape := ⟨4, ![1, 4, 256, 640]⟩
abbrev S256x640 : Shape := ⟨2, ![256, 640]⟩
abbrev S256x128 : Shape := ⟨2, ![256, 128]⟩
abbrev S256 : Shape := ⟨1, ![256]⟩
abbrev S256x1 : Shape := ⟨2, ![256, 1]⟩
abbrev S1x1024x640 : Shape := ⟨3, ![1, 1024, 640]⟩
abbrev S1x1x256x640 : Shape := ⟨4, ![1, 1, 256, 640]⟩

abbrev nBuf : Space → Nat
  | .hbm => 10
  | .vmem => 14
  | .smem => 0
  | _ => 0

abbrev bufTy : (tb : Table) → Fin (tcTables nBuf tb) → BufTy
  | .hbm, ⟨0, _⟩ => ⟨S1536x1024, .bf16⟩
  | .hbm, ⟨1, _⟩ => ⟨S4x1024x640, .fp8e4m3⟩
  | .hbm, ⟨2, _⟩ => ⟨S4x640, .f32⟩
  | .hbm, ⟨3, _⟩ => ⟨S1024x640, .fp8e4m3⟩
  | .hbm, ⟨4, _⟩ => ⟨S640, .f32⟩
  | .hbm, ⟨5, _⟩ => ⟨S1x640, .f32⟩
  | .hbm, ⟨6, _⟩ => ⟨S1536x1024, .fp8e4m3⟩
  | .hbm, ⟨7, _⟩ => ⟨S1536x8, .f32⟩
  | .hbm, ⟨8, _⟩ => ⟨S6x4x256x640, .f32⟩
  | .hbm, ⟨9, _⟩ => ⟨S1536x640, .f32⟩
  | .local _ .vmem, ⟨0, _⟩ => ⟨S256x1024, .bf16⟩
  | .local _ .vmem, ⟨1, _⟩ => ⟨S256x1024, .bf16⟩
  | .local _ .vmem, ⟨2, _⟩ => ⟨S4x1024x640, .fp8e4m3⟩
  | .local _ .vmem, ⟨3, _⟩ => ⟨S4x640, .f32⟩
  | .local _ .vmem, ⟨4, _⟩ => ⟨S1024x640, .fp8e4m3⟩
  | .local _ .vmem, ⟨5, _⟩ => ⟨S1x640, .f32⟩
  | .local _ .vmem, ⟨6, _⟩ => ⟨S256x1024, .fp8e4m3⟩
  | .local _ .vmem, ⟨7, _⟩ => ⟨S256x1024, .fp8e4m3⟩
  | .local _ .vmem, ⟨8, _⟩ => ⟨S256x8, .f32⟩
  | .local _ .vmem, ⟨9, _⟩ => ⟨S256x8, .f32⟩
  | .local _ .vmem, ⟨10, _⟩ => ⟨S1x4x256x640, .f32⟩
  | .local _ .vmem, ⟨11, _⟩ => ⟨S1x4x256x640, .f32⟩
  | .local _ .vmem, ⟨12, _⟩ => ⟨S256x640, .f32⟩
  | .local _ .vmem, ⟨13, _⟩ => ⟨S256x640, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1536x1024 : Shape := ⟨2, ![1536, 1024]⟩
abbrev S4x1024x640 : Shape := ⟨3, ![4, 1024, 640]⟩
abbrev S4x640 : Shape := ⟨2, ![4, 640]⟩
abbrev S1024x640 : Shape := ⟨2, ![1024, 640]⟩
abbrev S640 : Shape := ⟨1, ![640]⟩
abbrev S1536x8 : Shape := ⟨2, ![1536, 8]⟩
abbrev S6x4x256x640 : Shape := ⟨4, ![6, 4, 256, 640]⟩
abbrev S1536x640 : Shape := ⟨2, ![1536, 640]⟩
abbrev S1536x8x128 : Shape := ⟨3, ![1536, 8, 128]⟩
abbrev S1536x8x1 : Shape := ⟨3, ![1536, 8, 1]⟩
abbrev S1x1024x640 : Shape := ⟨3, ![1, 1024, 640]⟩
abbrev S1x640 : Shape := ⟨2, ![1, 640]⟩
abbrev S6x256x640 : Shape := ⟨3, ![6, 256, 640]⟩
abbrev S6x1x256x640 : Shape := ⟨4, ![6, 1, 256, 640]⟩

abbrev nBuf : Space → Nat
  | .hbm => 9
  | .vmem => 9
  | .smem => 0
  | _ => 0

abbrev bufTy : (tb : Table) → Fin (tcTables nBuf tb) → BufTy
  | .hbm, ⟨0, _⟩ => ⟨S1536x1024, .bf16⟩
  | .hbm, ⟨1, _⟩ => ⟨S4x1024x640, .fp8e4m3⟩
  | .hbm, ⟨2, _⟩ => ⟨S4x640, .f32⟩
  | .hbm, ⟨3, _⟩ => ⟨S1024x640, .fp8e4m3⟩
  | .hbm, ⟨4, _⟩ => ⟨S640, .f32⟩
  | .hbm, ⟨5, _⟩ => ⟨S1536x1024, .fp8e4m3⟩
  | .hbm, ⟨6, _⟩ => ⟨S1536x8, .f32⟩
  | .hbm, ⟨7, _⟩ => ⟨S6x4x256x640, .f32⟩
  | .hbm, ⟨8, _⟩ => ⟨S1536x640, .f32⟩
  | .local _ .vmem, ⟨0, _⟩ => ⟨S1536x1024, .bf16⟩
  | .local _ .vmem, ⟨1, _⟩ => ⟨S4x1024x640, .fp8e4m3⟩
  | .local _ .vmem, ⟨2, _⟩ => ⟨S4x640, .f32⟩
  | .local _ .vmem, ⟨3, _⟩ => ⟨S1024x640, .fp8e4m3⟩
  | .local _ .vmem, ⟨4, _⟩ => ⟨S640, .f32⟩
  | .local _ .vmem, ⟨5, _⟩ => ⟨S1536x1024, .fp8e4m3⟩
  | .local _ .vmem, ⟨6, _⟩ => ⟨S1536x8, .f32⟩
  | .local _ .vmem, ⟨7, _⟩ => ⟨S6x4x256x640, .f32⟩
  | .local _ .vmem, ⟨8, _⟩ => ⟨S1536x640, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x640 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x4x256x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Aggregate.lean ====
abbrev S1572864 : Shape := ⟨1, ![1572864]⟩
abbrev S6x4x256x640 : Shape := ⟨4, ![6, 4, 256, 640]⟩
abbrev S1536x640 : Shape := ⟨2, ![1536, 640]⟩
abbrev S192x8x8x128 : Shape := ⟨4, ![192, 8, 8, 128]⟩
abbrev S32x8x8x128 : Shape := ⟨4, ![32, 8, 8, 128]⟩
abbrev S1x4x256x640 : Shape := ⟨4, ![1, 4, 256, 640]⟩
abbrev S256x640 : Shape := ⟨2, ![256, 640]⟩
abbrev S32x1x8x128 : Shape := ⟨4, ![32, 1, 8, 128]⟩
abbrev S32x8x128 : Shape := ⟨3, ![32, 8, 128]⟩
abbrev S256x128 : Shape := ⟨2, ![256, 128]⟩
abbrev S256x1024 : Shape := ⟨2, ![256, 1024]⟩
abbrev S4x256x640 : Shape := ⟨3, ![4, 256, 640]⟩
abbrev S1024x640 : Shape := ⟨2, ![1024, 640]⟩

abbrev nBuf : Space → Nat
  | .hbm => 5
  | .vmem => 8
  | .smem => 0
  | _ => 0

abbrev bufTy : (tb : Table) → Fin (tcTables nBuf tb) → BufTy
  | .hbm, ⟨0, _⟩ => ⟨S1572864, .f32⟩
  | .hbm, ⟨1, _⟩ => ⟨S6x4x256x640, .f32⟩
  | .hbm, ⟨2, _⟩ => ⟨S1536x640, .f32⟩
  | .hbm, ⟨3, _⟩ => ⟨S192x8x8x128, .f32⟩
  | .hbm, ⟨4, _⟩ => ⟨S1536x640, .bf16⟩
  | .local _ .vmem, ⟨0, _⟩ => ⟨S32x8x8x128, .f32⟩
  | .local _ .vmem, ⟨1, _⟩ => ⟨S32x8x8x128, .f32⟩
  | .local _ .vmem, ⟨2, _⟩ => ⟨S1x4x256x640, .f32⟩
  | .local _ .vmem, ⟨3, _⟩ => ⟨S1x4x256x640, .f32⟩
  | .local _ .vmem, ⟨4, _⟩ => ⟨S256x640, .f32⟩
  | .local _ .vmem, ⟨5, _⟩ => ⟨S256x640, .f32⟩
  | .local _ .vmem, ⟨6, _⟩ => ⟨S256x640, .bf16⟩
  | .local _ .vmem, ⟨7, _⟩ => ⟨S256x640, .bf16⟩
  | _, _ => ⟨S1572864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AggregateReferenceIdeal.lean ====
abbrev S1572864 : Shape := ⟨1, ![1572864]⟩
abbrev S6x4x256x640 : Shape := ⟨4, ![6, 4, 256, 640]⟩
abbrev S1536x640 : Shape := ⟨2, ![1536, 640]⟩
abbrev S6x32x8x8x128 : Shape := ⟨5, ![6, 32, 8, 8, 128]⟩
abbrev S6x256x1024 : Shape := ⟨3, ![6, 256, 1024]⟩
abbrev S6x1024x640 : Shape := ⟨3, ![6, 1024, 640]⟩
abbrev S6x256x640 : Shape := ⟨3, ![6, 256, 640]⟩

abbrev nBuf : Space → Nat
  | .hbm => 11
  | .vmem => 0
  | .smem => 0
  | _ => 0

abbrev bufTy : (tb : Table) → Fin (tcTables nBuf tb) → BufTy
  | .hbm, ⟨0, _⟩ => ⟨S1572864, .f32⟩
  | .hbm, ⟨1, _⟩ => ⟨S6x4x256x640, .f32⟩
  | .hbm, ⟨2, _⟩ => ⟨S1536x640, .f32⟩
  | .hbm, ⟨3, _⟩ => ⟨S6x32x8x8x128, .f32⟩
  | .hbm, ⟨4, _⟩ => ⟨S6x32x8x8x128, .f32⟩
  | .hbm, ⟨5, _⟩ => ⟨S6x256x1024, .f32⟩
  | .hbm, ⟨6, _⟩ => ⟨S6x1024x640, .f32⟩
  | .hbm, ⟨7, _⟩ => ⟨S6x256x640, .f32⟩
  | .hbm, ⟨8, _⟩ => ⟨S1536x640, .f32⟩
  | .hbm, ⟨9, _⟩ => ⟨S1536x640, .f32⟩
  | .hbm, ⟨10, _⟩ => ⟨S1536x640, .bf16⟩
  | _, _ => ⟨S1572864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Words.lean ====
/-
  BIT PATTERNS WITH ONLY AN EXPONENT FIELD, and the float each one denotes.
-/
module

public import Idealize.ShloMosaic.Lib.Claim
public import Idealize.ShloMosaic.Lib.IdealHost

@[expose] public section

namespace Group

open Idealize.ShloMosaic

/-- The bit pattern with exponent field `n` and nothing else. -/
def word (n : ℕ) : BitVec 32 := BitVec.ofNat 32 (8388608 * n)

/-- The exponent field of `word n` is `n`. -/
theorem word_exp (n : ℕ) (h : n < 256) : ((word n).extractLsb' 23 8).toNat = n :=
  (by decide +kernel : ∀ n : Fin 256, ((word n).extractLsb' 23 8).toNat = n) ⟨n, h⟩

/-- The fraction field of `word n` is empty. -/
theorem word_frac (n : ℕ) (h : n < 256) : ((word n).extractLsb' 0 23).toNat = 0 :=
  (by decide +kernel : ∀ n : Fin 256, ((word n).extractLsb' 0 23).toNat = 0) ⟨n, h⟩

/-- `word n` has no sign. -/
theorem word_sign (n : ℕ) (h : n < 256) : ((word n).extractLsb' 31 1 == 1#1) = false :=
  (by decide +kernel : ∀ n : Fin 256, ((word n).extractLsb' 31 1 == 1#1) = false) ⟨n, h⟩

/-- Only `word 0` is the zero pattern. -/
theorem word_eq_zero (n : ℕ) (h : n < 256) : (word n == 0#32) = decide (n = 0) :=
  (by decide +kernel : ∀ n : Fin 256, (word n == 0#32) = decide ((n : ℕ) = 0)) ⟨n, h⟩

/-- Subtracting from the pattern of field 253. -/
theorem sub_word (n : ℕ) (h : n < 253) : IntOp.subi 2122317824#32 (word n) = word (253 - n) :=
  (by decide +kernel : ∀ n : Fin 253, IntOp.subi 2122317824#32 (word n) = word (253 - n)) ⟨n, h⟩

/-- Adding patterns adds the fields. -/
theorem add_word (m n : ℕ) : IntOp.addi (word m) (word n) = word (m + n) := by
  show word m + word n = word (m + n)
  unfold word
  rw [Nat.mul_add, BitVec.ofNat_add]

/-- `word n` read as a float is `2^(n-127)` for a normal exponent. -/
theorem val_word (n : ℕ) (h1 : 1 ≤ n) (h2 : n < 255) :
    FloatOps.ofBits (F := Ideal) .f32 (word n) = (((2 : ℝ) ^ ((n : ℤ) - 127) : ℝ) : EReal) := by
  show Ideal.ieee 8 23 (word n) = _
  unfold Ideal.ieee
  have hs : ((word n).extractLsb' (8 + 23) 1 == 1#1) = false := word_sign n (by omega)
  simp only [word_exp n (by omega), word_frac n (by omega), hs]
  rw [if_neg (by omega), if_neg (by omega)]
  have h23 : ((2 ^ 23 + 0 : ℕ) : ℝ) = (2 : ℝ) ^ (23 : ℤ) := by norm_num
  simp only [Bool.false_eq_true, if_false, one_mul]
  rw [h23, ← zpow_add₀ (two_ne_zero)]
  congr 2
  norm_num
  try ring

/-- The largest exponent reads as infinity. -/
theorem val_word_top : FloatOps.ofBits (F := Ideal) .f32 (word 255) = (⊤ : EReal) := by
  show Ideal.ieee 8 23 (word 255) = _
  unfold Ideal.ieee
  have hs : ((word 255).extractLsb' (8 + 23) 1 == 1#1) = false := word_sign 255 (by omega)
  simp only [word_exp 255 (by omega), word_frac 255 (by omega), hs]
  simp

/-! ### The constants -/

theorem word_0 : (0x00000000#32) = word 0 := by decide +kernel
theorem word_1 : (0x00800000#32) = word 1 := by decide +kernel
theorem word_2 : (0x01000000#32) = word 2 := by decide +kernel
theorem word_4 : (0x02000000#32) = word 4 := by decide +kernel
theorem word_8 : (0x04000000#32) = word 8 := by decide +kernel
theorem word_16 : (0x08000000#32) = word 16 := by decide +kernel
theorem word_32 : (0x10000000#32) = word 32 := by decide +kernel
theorem word_64 : (0x20000000#32) = word 64 := by decide +kernel
theorem word_127 : (0x3F800000#32) = word 127 := by decide +kernel
theorem word_128 : (0x40000000#32) = word 128 := by decide +kernel

/-- The float 1. -/
theorem val_one : FloatOps.ofBits (F := Ideal) .f32 0x3F800000#32 = ((1 : ℝ) : EReal) := by
  rw [word_127, val_word 127 (by omega) (by omega)]; norm_num

/-- The float 2. -/
theorem val_two : FloatOps.ofBits (F := Ideal) .f32 0x40000000#32 = ((2 : ℝ) : EReal) := by
  rw [word_128, val_word 128 (by omega) (by omega)]; norm_num

/-- The float 0. -/
theorem val_zero : FloatOps.ofBits (F := Ideal) .f32 0x00000000#32 = ((0 : ℝ) : EReal) :=
  Ideal.ofBits_zero_f32

/-- The smallest normal float. -/
theorem val_min : FloatOps.ofBits (F := Ideal) .f32 0x00800000#32 = (((2 : ℝ) ^ (-126 : ℤ) : ℝ) : EReal) := by
  rw [word_1, val_word 1 (by omega) (by omega)]; norm_num

end Group
-- ==== Proof.Exponent.lean ====
/-
  THE POWER OF TWO OF A GROUP, over the reals. The kernel finds the exponent field of a scale `v` by an eight-step search on
  bit patterns and forms the power of two above `v`, and its inverse, from that field; the reference forms them with
  `floor (log v / log 2) + 1` and `pow`. For `0 ≤ v < 2^126` the two agree (`kScale_eq`, `kInv_eq`).
-/
module

public import proofs.«01_k».proof.Proof.Words
public import Mathlib.Analysis.SpecialFunctions.Log.Basic

@[expose] public section

namespace Group

open Idealize.ShloMosaic

/-- One step of the search: add `s` to the pattern `b` unless the sum, read as a float, exceeds `v`. -/
noncomputable def probe (v : EReal) (b s : BitVec 32) : BitVec 32 :=
  Scalar.select (FloatOps.cmpf (F := Ideal) (φ := .f32) .olt v (FloatOps.ofBits (F := Ideal) .f32 (IntOp.addi b s))) b
    (IntOp.addi b s)

/-- The kernel's search: the exponent field of `v` as a bit pattern. -/
noncomputable def field (v : EReal) : BitVec 32 :=
  probe v (probe v (probe v (probe v (probe v (probe v (probe v (probe v 0#32 1073741824#32) 536870912#32) 268435456#32)
    134217728#32) 67108864#32) 33554432#32) 16777216#32) 8388608#32

/-- The kernel's power of two above `v` (1 where the field is 0). -/
noncomputable def kScale (v : EReal) : EReal :=
  FloatOps.ofBits (F := Ideal) .f32
    (Scalar.select (IntOp.cmpi .eq (field v) 0#32) 1065353216#32 (IntOp.addi (field v) 8388608#32))

/-- The kernel's inverse of that power of two. -/
noncomputable def kInv (v : EReal) : EReal :=
  FloatOps.ofBits (F := Ideal) .f32
    (Scalar.select (IntOp.cmpi .eq (field v) 0#32) 1065353216#32 (IntOp.subi 2122317824#32 (field v)))

/-- The reference's exponent of `v`: `floor (log v / log 2) + 1`, and 0 below the smallest normal float. -/
noncomputable def rExp (v : EReal) : EReal :=
  Scalar.select (FloatOps.cmpf (F := Ideal) (φ := .f32) .olt v (FloatOps.ofBits (F := Ideal) .f32 0x00800000#32))
    (FloatOps.ofBits (F := Ideal) .f32 0x00000000#32)
    (Ideal.liftRound Int.floor (Ideal.div (Ideal.log v) (Ideal.log (FloatOps.ofBits (F := Ideal) .f32 0x40000000#32)))
      + FloatOps.ofBits (F := Ideal) .f32 0x3F800000#32)

/-- The reference's power of two. -/
noncomputable def rScale (v : EReal) : EReal :=
  Ideal.pow (FloatOps.ofBits (F := Ideal) .f32 0x40000000#32) (rExp v)

/-- The reference's inverse of it. -/
noncomputable def rInv (v : EReal) : EReal :=
  Ideal.pow (FloatOps.ofBits (F := Ideal) .f32 0x40000000#32) (FloatOps.ofBits (F := Ideal) .f32 0x00000000#32 - rExp v)

/-! ### The exponent field of a real -/

/-- The whole part of the binary logarithm. -/
noncomputable def ilog (r : ℝ) : ℤ := ⌊Real.log r * (Real.log 2)⁻¹⌋

/-- `2^k ≤ r` exactly when `k ≤ ilog r`. -/
theorem zpow_le_iff (r : ℝ) (h : 0 < r) (k : ℤ) : (2 : ℝ) ^ k ≤ r ↔ k ≤ ilog r := by
  have hl : 0 < Real.log 2 := Real.log_pos (by norm_num)
  unfold ilog
  rw [Int.le_floor, ← div_eq_mul_inv, le_div_iff₀ hl, ← Real.log_zpow, Real.log_le_log_iff (by positivity) h]

/-- `r < 2^k` exactly when `ilog r < k`. -/
theorem lt_zpow_iff (r : ℝ) (h : 0 < r) (k : ℤ) : r < (2 : ℝ) ^ k ↔ ilog r < k := by
  rw [← not_le, zpow_le_iff r h k, not_le]

/-- The exponent field of a real below `2^127`: 0 below the smallest normal float, else `127 + ⌊log₂ r⌋`. -/
noncomputable def fieldNat (r : ℝ) : ℕ := if r < (2 : ℝ) ^ (-126 : ℤ) then 0 else (127 + ilog r).toNat

/-- A normal real lies between the powers of two of its field. -/
theorem fieldNat_spec (r : ℝ) (h : (2 : ℝ) ^ (-126 : ℤ) ≤ r) :
    1 ≤ fieldNat r ∧ (fieldNat r : ℤ) = 127 + ilog r := by
  unfold fieldNat
  rw [if_neg (not_lt.mpr h)]
  have h0 : 0 < r := lt_of_lt_of_le (by positivity) h
  have := (zpow_le_iff r h0 _).mp h
  omega

theorem fieldNat_le (r : ℝ) (h : r < (2 : ℝ) ^ (126 : ℤ)) : fieldNat r ≤ 252 := by
  by_cases h1 : r < (2 : ℝ) ^ (-126 : ℤ)
  · simp only [fieldNat, h1, if_true]; omega
  · have h1 := not_lt.mp h1
    have h0 : 0 < r := lt_of_lt_of_le (by positivity) h1
    have := (lt_zpow_iff r h0 _).mp h
    have := (fieldNat_spec r h1).2
    omega

/-- A real is below the float of exponent field `m` exactly when its own field is below `m`. -/
theorem lt_word (r : ℝ) (h : r < (2 : ℝ) ^ (126 : ℤ)) (m : ℕ) (h1 : 1 ≤ m) (h2 : m ≤ 255) :
    ((r : ℝ) : EReal) < FloatOps.ofBits (F := Ideal) .f32 (word m) ↔ fieldNat r < m := by
  rcases Nat.lt_or_ge m 255 with h3 | h3
  · rw [val_word m h1 h3]
    refine EReal.coe_lt_coe_iff.trans ?_
    by_cases hr : r < (2 : ℝ) ^ (-126 : ℤ)
    · refine iff_of_true (lt_of_lt_of_le hr (zpow_le_zpow_right₀ (by norm_num) (by omega))) ?_
      simp only [fieldNat, hr, if_true]; omega
    · have hr := not_lt.mp hr
      have h0 : 0 < r := lt_of_lt_of_le (by positivity) hr
      have := lt_zpow_iff r h0 ((m : ℤ) - 127)
      have h5 := (fieldNat_spec r hr).2
      rw [this]
      omega
  · obtain rfl : m = 255 := by omega
    rw [val_word_top]
    refine iff_of_true (EReal.coe_lt_top _) ?_
    have := fieldNat_le r h
    omega

theorem probe_word (r : ℝ) (h : r < (2 : ℝ) ^ (126 : ℤ)) (n s : ℕ) (h1 : 1 ≤ n + s) (h2 : n + s ≤ 255) :
    probe ((r : ℝ) : EReal) (word n) (word s) = word (if fieldNat r < n + s then n else n + s) := by
  unfold probe
  rw [add_word]
  have := lt_word r h (n + s) h1 h2
  unfold Scalar.select
  show (if BitVec.ofBool (decide (((r : ℝ) : EReal) < _)) = 1 then _ else _) = _
  by_cases hc : fieldNat r < n + s
  · rw [decide_eq_true (this.mpr hc), if_pos hc]; rfl
  · rw [decide_eq_false (fun h' => hc (this.mp h')), if_neg hc]; rfl

/-- The search finds the exponent field. -/
theorem field_eq (r : ℝ) (h : r < (2 : ℝ) ^ (126 : ℤ)) : field ((r : ℝ) : EReal) = word (fieldNat r) := by
  have hE := fieldNat_le r h
  generalize hn : fieldNat r = E at hE
  have step (n s m : ℕ) (h1 : 1 ≤ n + s) (h2 : n + s ≤ 255) (hm : (if E < n + s then n else n + s) = m) :
      probe ((r : ℝ) : EReal) (word n) (word s) = word m := by
    rw [probe_word r h n s h1 h2, hn, hm]
  unfold field
  rw [word_0, word_128, word_64, word_32, word_16, word_8, word_4, word_2, word_1]
  rw [step 0 128 (E / 128 * 128) (by omega) (by omega) (by split_ifs <;> omega),
    step _ 64 (E / 64 * 64) (by omega) (by omega) (by split_ifs <;> omega),
    step _ 32 (E / 32 * 32) (by omega) (by omega) (by split_ifs <;> omega),
    step _ 16 (E / 16 * 16) (by omega) (by omega) (by split_ifs <;> omega),
    step _ 8 (E / 8 * 8) (by omega) (by omega) (by split_ifs <;> omega),
    step _ 4 (E / 4 * 4) (by omega) (by omega) (by split_ifs <;> omega),
    step _ 2 (E / 2 * 2) (by omega) (by omega) (by split_ifs <;> omega),
    step _ 1 E (by omega) (by omega) (by split_ifs <;> omega)]

/-! ### The kernel's powers of two -/

/-- The kernel's scale: 1 at field 0, else `2^(field - 126)`. -/
theorem kScale_val (r : ℝ) (h : r < (2 : ℝ) ^ (126 : ℤ)) :
    kScale ((r : ℝ) : EReal)
      = (((2 : ℝ) ^ (if fieldNat r = 0 then 0 else (fieldNat r : ℤ) - 126) : ℝ) : EReal) := by
  have hE := fieldNat_le r h
  unfold kScale
  rw [field_eq r h]
  unfold Scalar.select
  show FloatOps.ofBits (F := Ideal) .f32 (if BitVec.ofBool (word (fieldNat r) == 0#32) = 1 then _ else _) = _
  rw [word_eq_zero _ (by omega)]
  by_cases h0 : fieldNat r = 0
  · rw [decide_eq_true h0, if_pos h0, if_pos (by decide), val_one]
    norm_num
  · rw [decide_eq_false h0, if_neg h0, if_neg (by decide)]
    rw [word_1, add_word, val_word _ (by omega) (by omega)]
    congr 2
    push_cast
    ring

/-- The kernel's inverse scale: 1 at field 0, else `2^(126 - field)`. -/
theorem kInv_val (r : ℝ) (h : r < (2 : ℝ) ^ (126 : ℤ)) :
    kInv ((r : ℝ) : EReal)
      = (((2 : ℝ) ^ (if fieldNat r = 0 then 0 else 126 - (fieldNat r : ℤ)) : ℝ) : EReal) := by
  have hE := fieldNat_le r h
  unfold kInv
  rw [field_eq r h]
  unfold Scalar.select
  show FloatOps.ofBits (F := Ideal) .f32 (if BitVec.ofBool (word (fieldNat r) == 0#32) = 1 then _ else _) = _
  rw [word_eq_zero _ (by omega)]
  by_cases h0 : fieldNat r = 0
  · rw [decide_eq_true h0, if_pos h0, if_pos (by decide), val_one]
    norm_num
  · rw [decide_eq_false h0, if_neg h0, if_neg (by decide)]
    rw [sub_word _ (by omega), val_word _ (by omega) (by omega)]
    congr 2
    push_cast [show fieldNat r ≤ 253 by omega]
    ring

/-! ### The reference's powers of two -/

/-- The reference's exponent. -/
theorem rExp_val (r : ℝ) :
    rExp ((r : ℝ) : EReal)
      = (((if fieldNat r = 0 then 0 else (fieldNat r : ℤ) - 126 : ℤ) : ℝ) : EReal) := by
  unfold rExp
  rw [val_two, val_one, val_min, val_zero]
  unfold Scalar.select
  show (if BitVec.ofBool (decide (((r : ℝ) : EReal) < (((2 : ℝ) ^ (-126 : ℤ) : ℝ) : EReal))) = 1 then _ else _) = _
  by_cases hr : r < (2 : ℝ) ^ (-126 : ℤ)
  · have hf : fieldNat r = 0 := by simp only [fieldNat, hr, if_true]
    rw [decide_eq_true (EReal.coe_lt_coe_iff.mpr hr), if_pos (by decide), hf, if_pos rfl]
    norm_num
  · rw [decide_eq_false (fun h' => hr (EReal.coe_lt_coe_iff.mp h')), if_neg (by decide)]
    have hr := not_lt.mp hr
    have h0 : 0 < r := lt_of_lt_of_le (by positivity) hr
    obtain ⟨hf1, hf⟩ := fieldNat_spec r hr
    have hl : Ideal.log ((r : ℝ) : EReal) = ((Real.log r : ℝ) : EReal) := if_neg (not_le.mpr h0)
    have hl2 : Ideal.log ((2 : ℝ) : EReal) = ((Real.log 2 : ℝ) : EReal) := if_neg (by norm_num)
    have hlog2 : Real.log 2 ≠ 0 := (Real.log_pos (by norm_num)).ne'
    rw [hl, hl2]
    unfold Ideal.div
    rw [if_neg (by exact_mod_cast hlog2), ← EReal.coe_inv, ← EReal.coe_mul]
    show (((ilog r : ℤ) : ℝ) : EReal) + _ = _
    rw [if_neg (by omega : ¬ fieldNat r = 0), hf, ← EReal.coe_add]
    congr 1
    push_cast
    ring

theorem pow_two_int (k : ℤ) :
    Ideal.pow (FloatOps.ofBits (F := Ideal) .f32 0x40000000#32) (((k : ℤ) : ℝ) : EReal) = (((2 : ℝ) ^ k : ℝ) : EReal) := by
  rw [val_two]
  show ((Real.rpow 2 (k : ℝ) : ℝ) : EReal) = _
  exact congrArg _ (Real.rpow_intCast 2 k)

/-- The two scales agree below `2^126`. -/
theorem kScale_eq (r : ℝ) (h : r < (2 : ℝ) ^ (126 : ℤ)) : kScale ((r : ℝ) : EReal) = rScale ((r : ℝ) : EReal) := by
  unfold rScale
  rw [kScale_val r h, rExp_val r, pow_two_int]

/-- The two inverse scales agree below `2^126`. -/
theorem kInv_eq (r : ℝ) (h : r < (2 : ℝ) ^ (126 : ℤ)) : kInv ((r : ℝ) : EReal) = rInv ((r : ℝ) : EReal) := by
  unfold rInv
  rw [kInv_val r h, rExp_val r]
  rw [val_zero, ← EReal.coe_sub,
    show (0 : ℝ) - ((if fieldNat r = 0 then 0 else (fieldNat r : ℤ) - 126 : ℤ) : ℝ)
      = ((if fieldNat r = 0 then 0 else 126 - (fieldNat r : ℤ) : ℤ) : ℝ) by split_ifs <;> push_cast <;> ring,
    pow_two_int]

end Group
-- ==== Proof.Group.lean ====
/-
  ONE QUANTISATION GROUP, over the reals: 128 entries of a row share one scale. The kernel's scale, codes and dequantised
  entries, the reference's, and their equality on entries bounded by the largest finite bfloat16.
-/
module

public import proofs.«01_k».proof.Proof.Exponent

@[expose] public section

namespace Group

open Idealize.ShloMosaic

/-- The largest magnitude of a group's entries. -/
noncomputable def top (f : Fin 128 → EReal) : EReal :=
  (Finset.univ : Finset (Fin 128)).fold max (FloatOps.ofBits (F := Ideal) .f32 0xFF800000#32)
    (fun k => FloatOps.absf (F := Ideal) (φ := .f32) (f k))

/-- The value whose power of two is the group's scale: the largest magnitude times 1/448. -/
noncomputable def lvl (f : Fin 128 → EReal) : EReal := top f * FloatOps.ofBits (F := Ideal) .f32 0x3B124925#32

/-- Clipping to the range of the 8-bit format. -/
noncomputable def clip (x : EReal) : EReal :=
  min (FloatOps.ofBits (F := Ideal) .f32 0x43E00000#32) (max (FloatOps.ofBits (F := Ideal) .f32 0xC3E00000#32) x)

/-- The kernel's code of entry `k`. -/
noncomputable def kCode (f : Fin 128 → EReal) (k : Fin 128) : EReal := clip (f k * kInv (lvl f))
/-- The kernel's dequantised entry `k`. -/
noncomputable def kDeq (f : Fin 128 → EReal) (k : Fin 128) : EReal := kCode f k * kScale (lvl f)
/-- The reference's code of entry `k`. -/
noncomputable def rCode (f : Fin 128 → EReal) (k : Fin 128) : EReal := clip (f k * rInv (lvl f))
/-- The reference's dequantised entry `k`. -/
noncomputable def rDeq (f : Fin 128 → EReal) (k : Fin 128) : EReal := rCode f k * rScale (lvl f)

/-- Entries no larger than the largest finite bfloat16. -/
def Bounded (f : Fin 128 → EReal) : Prop :=
  ∀ k, FloatOps.absf (F := Ideal) (φ := .f32) (f k) ≤ FloatOps.ofBits (F := Ideal) .f32 0x7F7F0000#32

theorem absf_nonneg (x : EReal) : 0 ≤ FloatOps.absf (F := Ideal) (φ := .f32) x := by
  show (0 : EReal) ≤ max x (-x)
  rcases le_total 0 x with h | h
  · exact le_max_of_le_left h
  · exact le_max_of_le_right (by simpa using EReal.neg_le_neg_iff.mpr h)

/-- The largest finite bfloat16 is a real below `2^128`. -/
theorem val_max : FloatOps.ofBits (F := Ideal) .f32 0x7F7F0000#32 = ((255 * (2 : ℝ) ^ (120 : ℤ) : ℝ) : EReal) := by
  show Ideal.ieee 8 23 0x7F7F0000#32 = _
  unfold Ideal.ieee
  have h1 : ((0x7F7F0000#32).extractLsb' (8 + 23) 1 == 1#1) = false := by decide +kernel
  have h2 : ((0x7F7F0000#32).extractLsb' 23 8).toNat = 254 := by decide +kernel
  have h3 : ((0x7F7F0000#32).extractLsb' 0 23).toNat = 8323072 := by decide +kernel
  simp only [h1, h2, h3]
  rw [if_neg (by omega), if_neg (by omega)]
  congr 1
  norm_num

/-- The kernel's constant 1/448 is a positive real below `2^-8`. -/
theorem val_inv448 : ∃ c : ℝ, 0 ≤ c ∧ c ≤ (2 : ℝ) ^ (-8 : ℤ) ∧
    FloatOps.ofBits (F := Ideal) .f32 0x3B124925#32 = ((c : ℝ) : EReal) := by
  refine ⟨(9586981 : ℝ) * (2 : ℝ) ^ (-32 : ℤ), by positivity, by norm_num, ?_⟩
  show Ideal.ieee 8 23 0x3B124925#32 = _
  unfold Ideal.ieee
  have h1 : ((0x3B124925#32).extractLsb' (8 + 23) 1 == 1#1) = false := by decide +kernel
  have h2 : ((0x3B124925#32).extractLsb' 23 8).toNat = 118 := by decide +kernel
  have h3 : ((0x3B124925#32).extractLsb' 0 23).toNat = 1198373 := by decide +kernel
  simp only [h1, h2, h3]
  rw [if_neg (by omega), if_neg (by omega)]
  congr 1
  norm_num

/-- The maximum's starting value is below everything. -/
theorem val_bot : FloatOps.ofBits (F := Ideal) .f32 0xFF800000#32 = (⊥ : EReal) := by
  show Ideal.ieee 8 23 0xFF800000#32 = _
  unfold Ideal.ieee
  have h1 : ((0xFF800000#32).extractLsb' (8 + 23) 1 == 1#1) = true := by decide +kernel
  have h2 : ((0xFF800000#32).extractLsb' 23 8).toNat = 255 := by decide +kernel
  have h3 : ((0xFF800000#32).extractLsb' 0 23).toNat = 0 := by decide +kernel
  simp only [h1, h2, h3]
  simp

/-- On bounded entries the level is a real below `2^126`. -/
theorem lvl_real (f : Fin 128 → EReal) (h : Bounded f) : ∃ r : ℝ, r < (2 : ℝ) ^ (126 : ℤ) ∧ lvl f = ((r : ℝ) : EReal) := by
  have hle : top f ≤ FloatOps.ofBits (F := Ideal) .f32 0x7F7F0000#32 :=
    (Finset.fold_max_le _).mpr ⟨by rw [val_bot]; exact bot_le, fun k _ => h k⟩
  have hge : 0 ≤ top f :=
    (Finset.le_fold_max _).mpr (Or.inr ⟨0, Finset.mem_univ _, absf_nonneg _⟩)
  rw [val_max] at hle
  obtain ⟨c, hc0, hc1, hc⟩ := val_inv448
  have hb : top f ≠ ⊥ := fun e => absurd (e ▸ hge) (by simp)
  have ht : top f ≠ ⊤ := fun e => absurd (e ▸ hle) (not_le.mpr (EReal.coe_lt_top _))
  obtain ⟨t, ht'⟩ : ∃ t : ℝ, top f = ((t : ℝ) : EReal) := ⟨(top f).toReal, (EReal.coe_toReal ht hb).symm⟩
  rw [ht'] at hle hge
  have hle' := EReal.coe_le_coe_iff.mp hle
  have hge' : (0 : ℝ) ≤ t := by exact_mod_cast hge
  refine ⟨t * c, ?_, ?_⟩
  · calc t * c ≤ (255 * (2 : ℝ) ^ (120 : ℤ)) * (2 : ℝ) ^ (-8 : ℤ) := mul_le_mul hle' hc1 hc0 (by positivity)
      _ < (2 : ℝ) ^ (126 : ℤ) := by norm_num
  · unfold lvl
    rw [ht', hc, EReal.coe_mul]

/-- On bounded entries the two scales agree … -/
theorem scale_eq (f : Fin 128 → EReal) (h : Bounded f) : kScale (lvl f) = rScale (lvl f) := by
  obtain ⟨r, hr, e⟩ := lvl_real f h
  rw [e, kScale_eq r hr]

/-- … the codes agree … -/
theorem code_eq (f : Fin 128 → EReal) (h : Bounded f) (k : Fin 128) : kCode f k = rCode f k := by
  obtain ⟨r, hr, e⟩ := lvl_real f h
  unfold kCode rCode
  rw [e, kInv_eq r hr]

/-- … and so do the dequantised entries. -/
theorem deq_eq (f : Fin 128 → EReal) (h : Bounded f) (k : Fin 128) : kDeq f k = rDeq f k := by
  unfold kDeq rDeq
  rw [code_eq f h k, scale_eq f h]

end Group
-- ==== Proof.Parts.lean ====
/-
  THE EIGHT GROUPS OF A BLOCK. The kernel quantises a block of 256 rows in eight groups of 128 columns, each with the same
  operations. Here the operations of the first group name the function of a group (`scales`, `codes`, `deqs`), and each
  other group's printed values are that function of its own columns; the block's stores follow.
-/
module

public import proofs.«01_k».proof.Proof.Gen.KernelIdeal.Frame
public import proofs.«01_k».proof.Proof.Group

@[expose] public section

namespace Parts

open Idealize.ShloMosaic Cert.KernelIdeal Cert.KernelIdeal.Gen

attribute [local instance] Cert.KernelIdeal.Gen.facts

/-- The scales of a group of 128 columns. -/
noncomputable def scales (w : Vec Ideal S256x128 .bf16) : FVec Ideal S256x1 .f32 :=
  k0_pay10 (k0_pay4 w) (k0_pay5 w) (k0_pay6 w) (k0_pay7 w)
/-- The codes of a group. -/
noncomputable def codes (w : Vec Ideal S256x128 .bf16) : FVec Ideal S256x128 .fp8e4m3 :=
  k0_pay11 (k0_pay3 w) (k0_pay4 w) (k0_pay5 w) (k0_pay6 w) (k0_pay7 w)
/-- The dequantised entries of a group. -/
noncomputable def deqs (w : Vec Ideal S256x128 .bf16) : FVec Ideal S256x128 .bf16 :=
  k0_pay12 (k0_pay3 w) (k0_pay4 w) (k0_pay5 w) (k0_pay6 w) (k0_pay7 w)

/-- The block's dequantised rows: the eight groups side by side. -/
noncomputable def rows (x0 : Vec Ideal S256x1024 .bf16) : FVec Ideal S256x1024 .bf16 :=
  concatenate S256x1024 1 [⟨S256x128, deqs (View.ld x0 r0_0)⟩, ⟨S256x128, deqs (View.ld x0 r0_1)⟩,
    ⟨S256x128, deqs (View.ld x0 r0_2)⟩, ⟨S256x128, deqs (View.ld x0 r0_3)⟩, ⟨S256x128, deqs (View.ld x0 r0_4)⟩,
    ⟨S256x128, deqs (View.ld x0 r0_5)⟩, ⟨S256x128, deqs (View.ld x0 r0_6)⟩, ⟨S256x128, deqs (View.ld x0 r0_7)⟩]
    concatenates_S256x128_S256x128_S256x128_S256x128_S256x128_S256x128_S256x128_S256x128_S256x1024_d1

/-- A block's rows times one weight matrix, scaled by column. -/
noncomputable def prod (x0 : Vec Ideal S256x1024 .bf16) (b : Vec Ideal S1x1024x640 .fp8e4m3) (s : Vec Ideal S1x640 .f32) :
    FVec Ideal S256x640 .f32 := k0_pay81 (rows x0) b s

variable (x0 : Vec Ideal S256x1024 .bf16) (x1 : Vec Ideal S4x1024x640 .fp8e4m3) (x2 : Vec Ideal S4x640 .f32)
  (x3 : Vec Ideal S1024x640 .fp8e4m3) (x4 : Vec Ideal S1x640 .f32)

theorem deqs_0 : k0_pay87 x0 x1 x2 x3 x4 = deqs (View.ld x0 r0_0) := rfl
theorem deqs_1 : k0_pay94 x0 x1 x2 x3 x4 = deqs (View.ld x0 r0_1) := rfl
theorem deqs_2 : k0_pay98 x0 x1 x2 x3 x4 = deqs (View.ld x0 r0_2) := rfl
theorem deqs_3 : k0_pay105 x0 x1 x2 x3 x4 = deqs (View.ld x0 r0_3) := rfl
theorem deqs_4 : k0_pay110 x0 x1 x2 x3 x4 = deqs (View.ld x0 r0_4) := rfl
theorem deqs_5 : k0_pay114 x0 x1 x2 x3 x4 = deqs (View.ld x0 r0_5) := rfl
theorem deqs_6 : k0_pay121 x0 x1 x2 x3 x4 = deqs (View.ld x0 r0_6) := rfl

/-- The dequantised rows of the block, as the body forms them. -/
theorem rows_eq : k0_pay127 x0 x1 x2 x3 x4 = rows x0 := by
  unfold k0_pay127
  rw [deqs_0, deqs_1, deqs_2, deqs_3, deqs_4, deqs_5, deqs_6]
  rfl

/-- What the body stores in the codes' block. -/
theorem out5_eq : out0_5 x0 x1 x2 x3 x4 = View.canon [⟨r0_7, codes (View.ld x0 r0_7)⟩, ⟨r0_6, codes (View.ld x0 r0_6)⟩,
    ⟨r0_5, codes (View.ld x0 r0_5)⟩, ⟨r0_4, codes (View.ld x0 r0_4)⟩, ⟨r0_3, codes (View.ld x0 r0_3)⟩,
    ⟨r0_2, codes (View.ld x0 r0_2)⟩, ⟨r0_1, codes (View.ld x0 r0_1)⟩, ⟨r0_0, codes (View.ld x0 r0_0)⟩] := rfl

/-- What the body stores in the scales' block. -/
theorem out6_eq : out0_6 x0 x1 x2 x3 x4 = View.canon [⟨r0_8, concatenate S256x8 1 [⟨S256x1, scales (View.ld x0 r0_0)⟩,
    ⟨S256x1, scales (View.ld x0 r0_1)⟩, ⟨S256x1, scales (View.ld x0 r0_2)⟩, ⟨S256x1, scales (View.ld x0 r0_3)⟩,
    ⟨S256x1, scales (View.ld x0 r0_4)⟩, ⟨S256x1, scales (View.ld x0 r0_5)⟩, ⟨S256x1, scales (View.ld x0 r0_6)⟩,
    ⟨S256x1, scales (View.ld x0 r0_7)⟩]
    concatenates_S256x1_S256x1_S256x1_S256x1_S256x1_S256x1_S256x1_S256x1_S256x8_d1⟩] := rfl

/-- What the body stores in the basis products' block. -/
theorem out7_eq : out0_7 x0 x1 x2 x3 x4 = View.canon [
    ⟨r0_20, k0_pay1 (prod x0 (View.ld x1 r0_18) (View.ld x2 r0_19))⟩,
    ⟨r0_17, k0_pay1 (prod x0 (View.ld x1 r0_15) (View.ld x2 r0_16))⟩,
    ⟨r0_14, k0_pay1 (prod x0 (View.ld x1 r0_12) (View.ld x2 r0_13))⟩,
    ⟨r0_11, k0_pay1 (prod x0 (View.ld x1 r0_9) (View.ld x2 r0_10))⟩] := by
  unfold out0_7
  rw [rows_eq, deqs_0, deqs_1, deqs_2, deqs_3, deqs_4, deqs_5, deqs_6]
  rfl

/-- What the body stores in the self products' block. -/
theorem out8_eq : out0_8 x0 x1 x2 x3 x4
    = View.canon [⟨r0_23, k0_pay2 (rows x0) (View.ld x3 r0_21) (View.ld x4 r0_22)⟩] := by
  unfold out0_8
  rw [rows_eq]

end Parts
-- ==== Proof.Block.lean ====
/-
  ONE BLOCK AT AN INDEX. The codes, scales and dequantised rows the kernel forms from a block of 256 rows, read at an index:
  each is the group function (Group.lean) of the 128 entries of its row and group.
-/
module

public import proofs.«01_k».proof.Proof.Parts
public import Idealize.ShloMosaic.Lib.Pointwise.Reshape
public import Idealize.ShloMosaic.Lib.Pointwise.Index
public import Idealize.ShloMosaic.Lib.Pointwise.ElementwiseCore
public import Idealize.ShloMosaic.Lib.ValueIdx
public import Idealize.ShloMosaic.Lib.Pipeline.Value
public import Idealize.ShloMosaic.Lib.Pipeline.ValueKit.Tiles

@[expose] public section

namespace Block

open Idealize.ShloMosaic Cert.KernelIdeal Cert.KernelIdeal.Gen

attribute [local instance] Cert.KernelIdeal.Gen.facts

/-! ### One group -/

/-- The operand's index of a maximum along the columns. -/
theorem lift_row (h : S256x128.Reduces [1] S256) (r : Fin 256) (k : Fin 128) : h.lift (ix1 r) k = ix2 r k := by
  funext a
  match a with
  | ⟨0, _⟩ => rfl
  | ⟨1, _⟩ => rfl

/-- The maximum along the columns, at a row. -/
theorem max_row (x : FVec Ideal S256x128 .f32) (h : S256x128.Reduces [1] S256) (hφ : FKind.Formats .f32)
    (hacc : 0xFF800000#32 = FKind.maximumf.neutral .f32 hφ) (r : Fin 256) :
    multiReduction .maximumf [1] S256 x 0xFF800000#32 h hφ hacc (ix1 r)
      = (Finset.univ : Finset (Fin 128)).fold max (FloatOps.ofBits (F := Ideal) .f32 0xFF800000#32) (fun k => x (ix2 r k)) := by
  refine (Ideal.multiReduction_maximumf_single x _ h hφ hacc (ix1 r)).trans ?_
  exact congrArg (fun g : Fin 128 → EReal => (Finset.univ : Finset (Fin 128)).fold max _ g)
    (funext fun k => congrArg x (lift_row h r k))

/-- The levels of a group, row by row. -/
theorem level_apply (w : Vec Ideal S256x128 .bf16) (r : Fin 256) (c : Fin 1) :
    (k0_pay4 w : FVec Ideal S256x1 .f32) (ix2 r c) = Group.lvl (fun k => w (ix2 r k)) := by
  unfold k0_pay4 k0_pay3
  simp only [mulf_apply, ValueIdx.broadcast_apply]
  rw [shapeCast_apply _ _ (ix2 r c) (ix1 r) (by
    rw [rowMajor_val1, rowMajor_val2 _ 1 rfl]; show r.val = r.val * 1 + c.val; omega)]
  unfold Group.lvl Group.top
  exact congrArg (fun t : EReal => t * FloatOps.ofBits (F := Ideal) .f32 0x3B124925#32)
    (max_row (absf (extf FTy.f32 w bitsLt_bf16_f32)) reduces_S256x128_S256 _ _ r)

/-- One step of the search, on a column of levels. -/
noncomputable def probes (v : FVec Ideal S256x1 .f32) (b : IVec S256x1 32) (s : BitVec 32) : IVec S256x1 32 :=
  select (cmpf .olt v (bitcastToFloat .f32 (addi b (broadcast S256x1 s)))) b (addi b (broadcast S256x1 s))

theorem probes_apply (v : FVec Ideal S256x1 .f32) (b : IVec S256x1 32) (s : BitVec 32) (i : S256x1.Idx) :
    probes v b s i = Group.probe (v i) (b i) s := rfl

/-- The search, on a column of levels. -/
noncomputable def fields (v : FVec Ideal S256x1 .f32) : IVec S256x1 32 :=
  probes v (probes v (probes v (probes v (probes v (probes v (probes v (probes v (broadcast S256x1 0#32) 1073741824#32)
    536870912#32) 268435456#32) 134217728#32) 67108864#32) 33554432#32) 16777216#32) 8388608#32

theorem fields_apply (v : FVec Ideal S256x1 .f32) (i : S256x1.Idx) : fields v i = Group.field (v i) := by
  unfold fields Group.field
  rw [probes_apply, probes_apply, probes_apply, probes_apply, probes_apply, probes_apply, probes_apply, probes_apply,
    ValueIdx.broadcast_apply]

/-- The first group's search. -/
theorem fields_eq (w : Vec Ideal S256x128 .bf16) :
    k0_pay8 (k0_pay4 w) (k0_pay5 w) (k0_pay6 w) (k0_pay7 w) = fields (k0_pay4 w) := rfl

/-- The scales of a group, row by row. -/
theorem scales_apply (w : Vec Ideal S256x128 .bf16) (r : Fin 256) (c : Fin 1) :
    Parts.scales w (ix2 r c) = Group.kScale (Group.lvl (fun k => w (ix2 r k))) := by
  rw [← level_apply w r c]
  unfold Parts.scales k0_pay10 k0_pay9
  rw [fields_eq]
  simp only [bitcastToFloat_apply, ValueIdx.select_apply, addi_apply, cmpi_apply, ValueIdx.broadcast_apply, fields_apply]
  unfold Group.kScale
  with_reducible rfl

/-- The kernel's inverse scales. -/
noncomputable def invs (w : Vec Ideal S256x128 .bf16) : FVec Ideal S256x1 .f32 :=
  bitcastToFloat .f32 (select (cmpi .eq (fields (k0_pay4 w)) (broadcast S256x1 0#32)) (broadcast S256x1 1065353216#32)
    (subi (broadcast S256x1 2122317824#32) (fields (k0_pay4 w))))

theorem invs_apply (w : Vec Ideal S256x128 .bf16) (r : Fin 256) (c : Fin 1) :
    invs w (ix2 r c) = Group.kInv (Group.lvl (fun k => w (ix2 r k))) := by
  rw [← level_apply w r c]
  unfold invs
  simp only [bitcastToFloat_apply, ValueIdx.select_apply, subi_apply, cmpi_apply, ValueIdx.broadcast_apply, fields_apply]
  unfold Group.kInv
  with_reducible rfl

/-- A column repeated along the row. -/
theorem spread_apply {φ : FTy} (x : FVec Ideal S256x1 φ) (r : Fin 256) (k : Fin 128) :
    broadcastTo S256x128 x broadcasts_S256x1_S256x128 (ix2 r k) = x (ix2 r 0) :=
  broadcastTo_apply _ broadcasts_S256x1_S256x128 (ix2 r k) (ix2 r 0) (by
    intro a
    match a with
    | ⟨0, _⟩ => rfl
    | ⟨1, _⟩ => rfl)

/-- The codes of a group at an index. -/
theorem codes_apply (w : Vec Ideal S256x128 .bf16) (r : Fin 256) (k : Fin 128) :
    Parts.codes w (ix2 r k) = Group.kCode (fun k => w (ix2 r k)) k := by
  unfold Group.kCode
  rw [← invs_apply w r 0]
  unfold Parts.codes k0_pay11 k0_pay9
  rw [fields_eq]
  simp only [ValueIdx.truncf_apply, ValueIdx.minimumf_apply, ValueIdx.maximumf_apply, ValueIdx.mulf_apply, ValueIdx.broadcast_apply,
    spread_apply]
  unfold Group.clip k0_pay3 invs
  simp only [ValueIdx.extf_apply]

/-- The dequantised entries of a group at an index. -/
theorem deqs_apply (w : Vec Ideal S256x128 .bf16) (r : Fin 256) (k : Fin 128) :
    Parts.deqs w (ix2 r k) = Group.kDeq (fun k => w (ix2 r k)) k := by
  unfold Group.kDeq
  rw [← codes_apply w r k, ← scales_apply w r 0]
  unfold Parts.deqs k0_pay12
  simp only [ValueIdx.mulf_apply, spread_apply, ValueIdx.extf_apply, ValueIdx.truncf_apply]
  unfold Parts.codes Parts.scales
  with_reducible rfl

end Block
-- ==== Proof.Rows.lean ====
/-
  GROUPS OF A ROW. The 128 entries of a group of a row of an array, and the three arrays the quantisation gives, read at an
  index: the kernel's and the reference's.
-/
module

public import proofs.«01_k».proof.Proof.Group
public import Idealize.ShloMosaic.Lib.Pointwise.Index

@[expose] public section

namespace Rows

open Idealize.ShloMosaic

/-- The 128 entries of group `g` of row `r`, in an array of any number of rows of 1024. -/
def grp {R : ℕ} (X : (⟨2, ![R, 1024]⟩ : Shape).Idx → EReal) (r : Fin R) (g : Fin 8) : Fin 128 → EReal :=
  fun k => X (ix2 r ⟨128 * g.val + k.val, by omega⟩)

/-- The group of a column. -/
def cg (c : Fin 1024) : Fin 8 := ⟨c.val / 128, by omega⟩
/-- The place of a column in its group. -/
def ck (c : Fin 1024) : Fin 128 := ⟨c.val % 128, by omega⟩

/-- Rows times a matrix, each column scaled. -/
noncomputable def scaledDot {R : ℕ} (D : Fin R → Fin 1024 → EReal) (B : Fin 1024 → Fin 640 → EReal) (s : Fin 640 → EReal)
    (r : Fin R) (o : Fin 640) : EReal := (∑ k : Fin 1024, D r k * B k o) * s o

variable {R : ℕ} (X : (⟨2, ![R, 1024]⟩ : Shape).Idx → EReal)

/-- The kernel's codes of an array. -/
noncomputable def kCodes (y : (⟨2, ![R, 1024]⟩ : Shape).Idx) : EReal := Group.kCode (grp X (y 0) (cg (y 1))) (ck (y 1))
/-- The kernel's scales of an array. -/
noncomputable def kScales (y : (⟨2, ![R, 8]⟩ : Shape).Idx) : EReal := Group.kScale (Group.lvl (grp X (y 0) (y 1)))
/-- The kernel's dequantised entries. -/
noncomputable def kDeqs (r : Fin R) (c : Fin 1024) : EReal := Group.kDeq (grp X r (cg c)) (ck c)
/-- The reference's codes of an array. -/
noncomputable def rCodes (y : (⟨2, ![R, 1024]⟩ : Shape).Idx) : EReal := Group.rCode (grp X (y 0) (cg (y 1))) (ck (y 1))
/-- The reference's scales of an array. -/
noncomputable def rScales (y : (⟨2, ![R, 8]⟩ : Shape).Idx) : EReal := Group.rScale (Group.lvl (grp X (y 0) (y 1)))
/-- The reference's dequantised entries. -/
noncomputable def rDeqs (r : Fin R) (c : Fin 1024) : EReal := Group.rDeq (grp X r (cg c)) (ck c)

/-- Every entry is no larger than the largest finite bfloat16. -/
def Bounded : Prop :=
  ∀ y, FloatOps.absf (F := Ideal) (φ := .f32) (X y) ≤ FloatOps.ofBits (F := Ideal) .f32 0x7F7F0000#32

variable {X}

theorem bounded_grp (h : Bounded X) (r : Fin R) (g : Fin 8) : Group.Bounded (grp X r g) := fun _ => h _

/-- On a bounded array the codes agree … -/
theorem codes_eq (h : Bounded X) : kCodes X = rCodes X :=
  funext fun _ => Group.code_eq _ (bounded_grp h _ _) _
/-- … the scales agree … -/
theorem scales_eq (h : Bounded X) : kScales X = rScales X :=
  funext fun _ => Group.scale_eq _ (bounded_grp h _ _)
/-- … and so do the dequantised entries. -/
theorem deqs_eq (h : Bounded X) : kDeqs X = rDeqs X :=
  funext fun _ => funext fun _ => Group.deq_eq _ (bounded_grp h _ _) _

end Rows
-- ==== Proof.BlockOut.lean ====
/-
  A BLOCK'S CODES, SCALES AND DEQUANTISED ROWS, whole: the eight groups put together.
-/
module

public import proofs.«01_k».proof.Proof.Block
public import proofs.«01_k».proof.Proof.Rows

@[expose] public section

namespace Block

open Idealize.ShloMosaic Cert.KernelIdeal Cert.KernelIdeal.Gen Rows

attribute [local instance] Cert.KernelIdeal.Gen.facts

/-- The columns of group `g`. -/
def rect (g : Fin 8) : Rect S256x1024 := Rect.unit (s := S256x1024) ![0, 128 * g.val] S256x128.size (by
  intro a
  match a with
  | ⟨0, _⟩ => show 0 + 256 ≤ 256; omega
  | ⟨1, _⟩ => show 128 * g.val + 128 ≤ 1024; omega)

variable (x0 : Vec Ideal S256x1024 .bf16) (x1 : Vec Ideal S4x1024x640 .fp8e4m3) (x2 : Vec Ideal S4x640 .f32)
  (x3 : Vec Ideal S1024x640 .fp8e4m3) (x4 : Vec Ideal S1x640 .f32)

/-- The columns of a group, loaded. -/
def cols (g : Fin 8) : Vec Ideal S256x128 .bf16 := View.ld x0 (rect g)

theorem ld_rect (g : Fin 8) (r : Fin 256) : (fun k : Fin 128 => cols x0 g (ix2 r k)) = grp x0 r g := by
  funext k
  unfold grp cols rect
  refine View.ld_unit_apply_of x0 _ _ _ _ _ ?_
  intro a
  match a with
  | ⟨0, _⟩ => show r.val = 0 + r.val; omega
  | ⟨1, _⟩ => rfl

/-- The codes of a group are the block's codes at its columns. -/
theorem codes_piece (g : Fin 8) (x : S256x128.Idx) :
    Parts.codes (cols x0 g) x = kCodes x0 ((rect g).emb x) := by
  obtain ⟨r, k, rfl⟩ : ∃ r k, x = ix2 r k := ⟨x 0, x 1, eq_ix2 x⟩
  rw [codes_apply, ld_rect]
  unfold kCodes
  have h0 : ((rect g).emb (ix2 r k)) 0 = r := Fin.ext (by show 0 + 1 * r.val = r.val; omega)
  have h1 : (((rect g).emb (ix2 r k)) 1 : Fin 1024).val = 128 * g.val + k.val := by
    show 128 * g.val + 1 * k.val = _; omega
  have hg : cg (((rect g).emb (ix2 r k)) 1) = g := Fin.ext (by
    show (((rect g).emb (ix2 r k)) 1 : Fin 1024).val / 128 = _; rw [h1]; omega)
  have hk : ck (((rect g).emb (ix2 r k)) 1) = k := Fin.ext (by
    show (((rect g).emb (ix2 r k)) 1 : Fin 1024).val % 128 = _; rw [h1]; omega)
  rw [h0, hg, hk]

/-- The codes' block. -/
theorem out5_val : out0_5 x0 x1 x2 x3 x4 = kCodes x0 := by
  rw [Parts.out5_eq]
  funext y
  refine View.canon_apply_of_pieces (Val := Elt Ideal) (e := .fp8e4m3) (kCodes x0) _ ?_ y (cover0_5 _ _ _ _ _ _ _ _ y)
  intro p hp x
  simp only [List.mem_cons, List.not_mem_nil, or_false] at hp
  rcases hp with rfl | rfl | rfl | rfl | rfl | rfl | rfl | rfl
  · exact codes_piece x0 7 x
  · exact codes_piece x0 6 x
  · exact codes_piece x0 5 x
  · exact codes_piece x0 4 x
  · exact codes_piece x0 3 x
  · exact codes_piece x0 2 x
  · exact codes_piece x0 1 x
  · exact codes_piece x0 0 x

/-- The dequantised rows. -/
theorem rows_apply (r : Fin 256) (c : Fin 1024) : Parts.rows x0 (ix2 r c) = kDeqs x0 r c := by
  have e := concatenate_ofFn_apply (t := S256x1024) (s₁ := S256x128) 1 (fun n : Fin 8 => Parts.deqs (cols x0 n))
    concatenates_S256x128_S256x128_S256x128_S256x128_S256x128_S256x128_S256x128_S256x128_S256x1024_d1 rfl 128 rfl
    (ix2 r c) (cg c) rfl (ix2 r (ck c)) rfl (by
      intro b hb
      match b with
      | ⟨0, _⟩ => rfl
      | ⟨1, _⟩ => exact absurd rfl hb)
  unfold kDeqs
  rw [← ld_rect, ← deqs_apply]
  exact e

/-- The scales' block. -/
theorem out6_val : out0_6 x0 x1 x2 x3 x4 = kScales x0 := by
  rw [Parts.out6_eq]
  have hz : (![0, 0] : Fin S256x8.rank → Nat) = fun _ => 0 := by
    funext a
    match a with
    | ⟨0, _⟩ => rfl
    | ⟨1, _⟩ => rfl
  rw [View.canon_unit_zero hz]
  funext y
  obtain ⟨r, g, rfl⟩ : ∃ r g, y = ix2 r g := ⟨y 0, y 1, eq_ix2 y⟩
  have e := concatenate_ofFn_apply (t := S256x8) (s₁ := S256x1) 1 (fun n : Fin 8 => Parts.scales (cols x0 n))
    concatenates_S256x1_S256x1_S256x1_S256x1_S256x1_S256x1_S256x1_S256x1_S256x8_d1 rfl 1 rfl
    (ix2 r g) g (Nat.div_one _) (ix2 r 0) (Nat.mod_one _).symm (by
      intro b hb
      match b with
      | ⟨0, _⟩ => rfl
      | ⟨1, _⟩ => exact absurd rfl hb)
  show _ = Group.kScale (Group.lvl (grp x0 r g))
  rw [← ld_rect, ← scales_apply _ r 0]
  exact e

end Block
-- ==== Proof.BlockProd.lean ====
/-
  A BLOCK'S PRODUCTS. The dequantised rows times each of the four basis matrices and times the self matrix, each column
  scaled, read at an index.
-/
module

public import proofs.«01_k».proof.Proof.BlockOut
public import Idealize.ShloMosaic.Lib.MatmulPlain

@[expose] public section

namespace Block

open Idealize.ShloMosaic Cert.KernelIdeal Cert.KernelIdeal.Gen Rows

attribute [local instance] Cert.KernelIdeal.Gen.facts

variable (x0 : Vec Ideal S256x1024 .bf16) (x1 : Vec Ideal S4x1024x640 .fp8e4m3) (x2 : Vec Ideal S4x640 .f32)
  (x3 : Vec Ideal S1024x640 .fp8e4m3) (x4 : Vec Ideal S1x640 .f32)

/-- The two spellings of a matrix index. -/
theorem ix2_same {m n : ℕ} (a : Fin m) (b : Fin n) : ValueIdx.ix2 a b = ix2 a b := by
  funext i
  match i with
  | ⟨0, _⟩ => rfl
  | ⟨1, _⟩ => rfl

/-- The printed product from a zero accumulator, at an index. -/
theorem dot_apply (D : FVec Ideal S256x1024 .bf16) (B : FVec Ideal S1024x640 .fp8e4m3) (r : Fin 256) (o : Fin 640) :
    matmul dot_S256x1024_S1024x640_S256x640_1_0_0_1_n_n none D B (constant S256x640 .f32 0x00000000#32) (ix2 r o)
      = ∑ k : Fin 1024, D (ix2 r k) * B (ix2 k o) := by
  refine (Ideal.matmul_plain_apply none D B (constant S256x640 .f32 0x00000000#32) r o).trans ?_
  rw [ValueIdx.constant_apply, Ideal.ofBits_zero_f32, zero_add]
  exact Finset.sum_congr rfl fun k _ => by rw [ix2_same, ix2_same]

/-- A row of column scales repeated down the block. -/
theorem down_apply (s : FVec Ideal S1x640 .f32) (r : Fin 256) (o : Fin 640) :
    broadcastTo S256x640 s broadcasts_S1x640_S256x640 (ix2 r o) = s (ix2 0 o) :=
  broadcastTo_apply _ broadcasts_S1x640_S256x640 (ix2 r o) (ix2 0 o) (by
    intro a
    match a with
    | ⟨0, _⟩ => rfl
    | ⟨1, _⟩ => rfl)

/-- One basis product at an index. -/
theorem prod_apply (b : Vec Ideal S1x1024x640 .fp8e4m3) (s : Vec Ideal S1x640 .f32) (r : Fin 256) (o : Fin 640) :
    Parts.prod x0 b s (ix2 r o)
      = scaledDot (kDeqs x0) (fun k o => b (ix3 0 k o)) (fun o => s (ix2 0 o)) r o := by
  unfold Parts.prod k0_pay81 scaledDot
  rw [ValueIdx.mulf_apply, dot_apply, down_apply]
  congr 1
  refine Finset.sum_congr rfl fun k _ => ?_
  rw [rows_apply]
  congr 1
  refine shapeCast_apply _ _ (ix2 k o) (ix3 0 k o) ?_
  rw [rowMajor_val2 _ 640 rfl, rowMajor_val3 _ 655360 640 rfl rfl]
  show 0 * 655360 + k.val * 640 + o.val = k.val * 640 + o.val
  omega

/-- The self product at an index. -/
theorem self_apply (w : Vec Ideal S1024x640 .fp8e4m3) (s : Vec Ideal S1x640 .f32) (r : Fin 256) (o : Fin 640) :
    k0_pay2 (Parts.rows x0) w s (ix2 r o)
      = scaledDot (kDeqs x0) (fun k o => w (ix2 k o)) (fun o => s (ix2 0 o)) r o := by
  unfold k0_pay2 scaledDot
  rw [ValueIdx.mulf_apply, dot_apply, down_apply, shapeCast_apply s _ (ix2 0 o) (ix2 0 o) rfl]
  congr 1
  exact Finset.sum_congr rfl fun k _ => by rw [rows_apply]

/-- The basis products of a block. -/
noncomputable def kProds (y : S1x4x256x640.Idx) : EReal :=
  scaledDot (kDeqs x0) (fun k o => x1 (ix3 (y 1) k o)) (fun o => x2 (ix2 (y 1) o)) (y 2) (y 3)

/-- The self product of a block. -/
noncomputable def kSelf (y : S256x640.Idx) : EReal :=
  scaledDot (kDeqs x0) (fun k o => x3 (ix2 k o)) (fun o => x4 (ix2 0 o)) (y 0) (y 1)

/-- Basis matrix `b`. -/
abbrev rectB (b : Fin 4) : Rect S4x1024x640 := Rect.unit (s := S4x1024x640) ![b.val, 0, 0] S1x1024x640.size (by
  intro a
  match a with
  | ⟨0, _⟩ => show b.val + 1 ≤ 4; omega
  | ⟨1, _⟩ => show 0 + 1024 ≤ 1024; omega
  | ⟨2, _⟩ => show 0 + 640 ≤ 640; omega)
/-- Its column scales. -/
abbrev rectS (b : Fin 4) : Rect S4x640 := Rect.unit (s := S4x640) ![b.val, 0] S1x640.size (by
  intro a
  match a with
  | ⟨0, _⟩ => show b.val + 1 ≤ 4; omega
  | ⟨1, _⟩ => show 0 + 640 ≤ 640; omega)
/-- Its product's place. -/
abbrev rectO (b : Fin 4) : Rect S1x4x256x640 := Rect.unit (s := S1x4x256x640) ![0, b.val, 0, 0] S1x1x256x640.size (by
  intro a
  match a with
  | ⟨0, _⟩ => show 0 + 1 ≤ 1; omega
  | ⟨1, _⟩ => show b.val + 1 ≤ 4; omega
  | ⟨2, _⟩ => show 0 + 256 ≤ 256; omega
  | ⟨3, _⟩ => show 0 + 640 ≤ 640; omega)

/-- Basis matrix `b`, loaded. -/
def matB (b : Fin 4) : Vec Ideal S1x1024x640 .fp8e4m3 := View.ld x1 (rectB b)
/-- Its column scales, loaded. -/
def matS (b : Fin 4) : Vec Ideal S1x640 .f32 := View.ld x2 (rectS b)

theorem matB_apply (b : Fin 4) (k : Fin 1024) (o : Fin 640) : matB x1 b (ix3 0 k o) = x1 (ix3 b k o) := by
  unfold matB
  refine View.ld_unit_apply_of x1 _ _ _ _ _ ?_
  intro a
  match a with
  | ⟨0, _⟩ => rfl
  | ⟨1, _⟩ => show k.val = 0 + k.val; omega
  | ⟨2, _⟩ => show o.val = 0 + o.val; omega

theorem matS_apply (b : Fin 4) (o : Fin 640) : matS x2 b (ix2 0 o) = x2 (ix2 b o) := by
  unfold matS
  refine View.ld_unit_apply_of x2 _ _ _ _ _ ?_
  intro a
  match a with
  | ⟨0, _⟩ => rfl
  | ⟨1, _⟩ => show o.val = 0 + o.val; omega

/-- A stored basis product is the block's products at its place. -/
theorem prods_piece_at (b : Fin 4) (r : Fin 256) (o : Fin 640) :
    k0_pay1 (Parts.prod x0 (matB x1 b) (matS x2 b)) (ix4 0 0 r o) = kProds x0 x1 x2 (ix4 0 b r o) := by
  unfold k0_pay1
  rw [shapeCast_apply _ _ (ix4 0 0 r o) (ix2 r o) (by
    rw [rowMajor_val2 _ 640 rfl, rowMajor_val4 _ 163840 163840 640 rfl rfl rfl]
    show r.val * 640 + o.val = 0 * 163840 + 0 * 163840 + r.val * 640 + o.val
    omega)]
  rw [prod_apply]
  simp only [matB_apply, matS_apply]
  rfl

theorem prods_piece (b : Fin 4) (x : S1x1x256x640.Idx) :
    k0_pay1 (Parts.prod x0 (matB x1 b) (matS x2 b)) x = kProds x0 x1 x2 ((rectO b).emb x) := by
  obtain ⟨r, o, rfl⟩ : ∃ (r : Fin 256) (o : Fin 640), x = ix4 (n0 := 1) (n1 := 1) 0 0 r o := by
    refine ⟨x 2, x 3, (eq_ix4 x).trans ?_⟩
    congr 1 <;> exact Subsingleton.elim (α := Fin 1) _ _
  rw [prods_piece_at]
  congr 1
  funext a
  apply Fin.ext
  match a with
  | ⟨0, _⟩ => rfl
  | ⟨1, _⟩ => rfl
  | ⟨2, _⟩ => show r.val = 0 + 1 * r.val; omega
  | ⟨3, _⟩ => show o.val = 0 + 1 * o.val; omega

/-- The basis products' block. -/
theorem out7_val : out0_7 x0 x1 x2 x3 x4 = kProds x0 x1 x2 := by
  rw [Parts.out7_eq]
  funext y
  refine View.canon_apply_of_pieces (Val := Elt Ideal) (e := .f32) (kProds x0 x1 x2) _ ?_ y (cover0_7 _ _ _ _ y)
  intro p hp x
  simp only [List.mem_cons, List.not_mem_nil, or_false] at hp
  rcases hp with rfl | rfl | rfl | rfl
  · exact prods_piece x0 x1 x2 3 x
  · exact prods_piece x0 x1 x2 2 x
  · exact prods_piece x0 x1 x2 1 x
  · exact prods_piece x0 x1 x2 0 x

/-- The self products' block. -/
theorem out8_val : out0_8 x0 x1 x2 x3 x4 = kSelf x0 x3 x4 := by
  rw [Parts.out8_eq]
  have hz (n : ℕ) (d : Fin 2 → ℕ) (h : d = ![n, n]) (h0 : n = 0) : d = fun _ => 0 := by
    subst h h0
    funext a
    match a with
    | ⟨0, _⟩ => rfl
    | ⟨1, _⟩ => rfl
  rw [View.canon_unit_zero (hz 0 _ rfl rfl), View.ld_unit_zero (hz 0 _ rfl rfl), View.ld_unit_zero (hz 0 _ rfl rfl)]
  funext y
  obtain ⟨r, o, rfl⟩ : ∃ r o, y = ix2 r o := ⟨y 0, y 1, eq_ix2 y⟩
  exact self_apply x0 x3 x4 r o

end Block
-- ==== Proof.RowsLocal.lean ====
/-
  WHAT ROWS DEPEND ON. The codes, scales, dequantised entries and products of an array at a row are those of any other
  array that has the same row.
-/
module

public import proofs.«01_k».proof.Proof.Rows

@[expose] public section

namespace Rows

open Idealize.ShloMosaic

variable {R R' : ℕ} {X : (⟨2, ![R, 1024]⟩ : Shape).Idx → EReal} {X' : (⟨2, ![R', 1024]⟩ : Shape).Idx → EReal}
  {r : Fin R} {r' : Fin R'}

/-- The groups of a row … -/
theorem grp_row (h : ∀ k, X (ix2 r k) = X' (ix2 r' k)) (g : Fin 8) : grp X r g = grp X' r' g :=
  funext fun _ => h _

/-- … its codes … -/
theorem kCodes_row (h : ∀ k, X (ix2 r k) = X' (ix2 r' k)) (k : Fin 1024) : kCodes X (ix2 r k) = kCodes X' (ix2 r' k) := by
  show Group.kCode (grp X r (cg k)) (ck k) = Group.kCode (grp X' r' (cg k)) (ck k)
  rw [grp_row h]

/-- … its scales … -/
theorem kScales_row (h : ∀ k, X (ix2 r k) = X' (ix2 r' k)) (g : Fin 8) : kScales X (ix2 r g) = kScales X' (ix2 r' g) := by
  show Group.kScale (Group.lvl (grp X r g)) = Group.kScale (Group.lvl (grp X' r' g))
  rw [grp_row h]

/-- … its dequantised entries … -/
theorem kDeqs_row (h : ∀ k, X (ix2 r k) = X' (ix2 r' k)) : kDeqs X r = kDeqs X' r' := by
  funext k
  show Group.kDeq (grp X r (cg k)) (ck k) = Group.kDeq (grp X' r' (cg k)) (ck k)
  rw [grp_row h]

/-- … and its products with a matrix. -/
theorem scaledDot_row {D : Fin R → Fin 1024 → EReal} {D' : Fin R' → Fin 1024 → EReal} (h : D r = D' r')
    (B : Fin 1024 → Fin 640 → EReal) (s : Fin 640 → EReal) (o : Fin 640) :
    scaledDot D B s r o = scaledDot D' B s r' o := by
  unfold scaledDot
  rw [h]

/-- Row `r` of block `t` of 256 rows. -/
def row (t : Fin 6) (r : Fin 256) : Fin 1536 := ⟨256 * t.val + r.val, by omega⟩

/-- The basis products of dequantised rows, by block of rows, basis matrix, row of the block and column. -/
noncomputable def basisOf (D : Fin 1536 → Fin 1024 → EReal) (B : (⟨3, ![4, 1024, 640]⟩ : Shape).Idx → EReal)
    (S : (⟨2, ![4, 640]⟩ : Shape).Idx → EReal) (y : (⟨4, ![6, 4, 256, 640]⟩ : Shape).Idx) : EReal :=
  scaledDot D (fun k o => B (ix3 (y 1) k o)) (fun o => S (ix2 (y 1) o)) (row (y 0) (y 2)) (y 3)

theorem basisOf_apply (D : Fin 1536 → Fin 1024 → EReal) (B : (⟨3, ![4, 1024, 640]⟩ : Shape).Idx → EReal)
    (S : (⟨2, ![4, 640]⟩ : Shape).Idx → EReal) (t : Fin 6) (b : Fin 4) (r : Fin 256) (o : Fin 640) :
    basisOf D B S (ix4 t b r o) = scaledDot D (fun k o => B (ix3 b k o)) (fun o => S (ix2 b o)) (row t r) o := rfl

/-- The self products of dequantised rows. -/
noncomputable def selfOf (D : Fin 1536 → Fin 1024 → EReal) (W : (⟨2, ![1024, 640]⟩ : Shape).Idx → EReal)
    (T : (⟨1, ![640]⟩ : Shape).Idx → EReal) (y : (⟨2, ![1536, 640]⟩ : Shape).Idx) : EReal :=
  scaledDot D (fun k o => W (ix2 k o)) (fun o => T (ix1 o)) (y 0) (y 1)

end Rows
-- ==== Proof.KernelArr.lean ====
/-
  WHAT THE KERNEL'S ARRAYS HOLD at the end: each of the six grid points writes the block of one whole-array function,
  and the six blocks cover the array.
-/
module

public import proofs.«01_k».proof.Proof.BlockProd
public import proofs.«01_k».proof.Proof.RowsLocal
public import proofs.«01_k».proof.Proof.Gen.KernelIdeal.Value
public import Idealize.ShloMosaic.Lib.Pipeline.Value

@[expose] public section

namespace KernelArr

open Idealize.ShloMosaic Idealize.ShloMosaic.TcCoe Cert.KernelIdeal Cert.KernelIdeal.Gen Rows
open Idealize.ShloMosaic.Pipeline (Dat)

attribute [local instance] Cert.KernelIdeal.Gen.facts

variable (m : (ℓ : Loc nD τ sig) → Buf (Elt Ideal) ℓ) (c : Dev nD)

/-- The features. -/
def X : Vec Ideal S1536x1024 .bf16 := m ((c : Thread nD τ).loc main_arg0)
/-- The basis matrices. -/
def B : Vec Ideal S4x1024x640 .fp8e4m3 := m ((c : Thread nD τ).loc main_arg1)
/-- Their column scales. -/
def S : Vec Ideal S4x640 .f32 := m ((c : Thread nD τ).loc main_arg2)
/-- The self matrix. -/
def W : Vec Ideal S1024x640 .fp8e4m3 := m ((c : Thread nD τ).loc main_arg3)
/-- Its column scales. -/
def T : Vec Ideal S640 .f32 := m ((c : Thread nD τ).loc main_arg4)

/-- The grid points, counted. -/
def pt (t : Fin cfg0.N) : Fin 6 := ⟨t.val, by have h := t.isLt; have : cfg0.N = 6 := N_0; omega⟩

/-- Point `t` reads rows `256 t …` of the features. -/
theorem x0_apply (t : Fin cfg0.N) (r : Fin 256) (k : Fin 1024) :
    (iblk m c 0 t : Vec Ideal S256x1024 .bf16) (ix2 r k) = X m c (ix2 (row (pt t) r) k) := by
  show (X m c) ((win0_0.rect t).emb (ix2 r k)) = _
  refine congrArg (X m c) (funext fun a => Fin.ext ?_)
  have e : win0_0.index t 0 = t.val ∧ win0_0.index t 1 = 0 := by
    rcases fin_N0 t with rfl | rfl | rfl | rfl | rfl | rfl <;> decide +kernel
  match a with
  | ⟨0, _⟩ =>
    show win0_0.index t 0 * 256 + 1 * r.val = 256 * t.val + r.val
    rw [e.1]; omega
  | ⟨1, _⟩ =>
    show win0_0.index t 1 * 1024 + 1 * k.val = k.val
    rw [e.2]; omega

/-- Every point reads all basis matrices … -/
theorem x1_eq (t : Fin cfg0.N) : (iblk m c 1 t : Vec Ideal S4x1024x640 .fp8e4m3) = B m c := by
  funext x
  show (B m c) ((win0_1.rect t).emb x) = _
  refine congrArg (B m c) (funext fun a => Fin.ext ?_)
  exact win0_1.rect_emb_val_of_index_zero t a (by
    rcases fin_N0 t with rfl | rfl | rfl | rfl | rfl | rfl <;> revert a <;> decide +kernel) x

/-- … their column scales … -/
theorem x2_eq (t : Fin cfg0.N) : (iblk m c 2 t : Vec Ideal S4x640 .f32) = S m c := by
  funext x
  show (S m c) ((win0_2.rect t).emb x) = _
  refine congrArg (S m c) (funext fun a => Fin.ext ?_)
  exact win0_2.rect_emb_val_of_index_zero t a (by
    rcases fin_N0 t with rfl | rfl | rfl | rfl | rfl | rfl <;> revert a <;> decide +kernel) x

/-- … the self matrix … -/
theorem x3_eq (t : Fin cfg0.N) : (iblk m c 3 t : Vec Ideal S1024x640 .fp8e4m3) = W m c := by
  funext x
  show (W m c) ((win0_3.rect t).emb x) = _
  refine congrArg (W m c) (funext fun a => Fin.ext ?_)
  exact win0_3.rect_emb_val_of_index_zero t a (by
    rcases fin_N0 t with rfl | rfl | rfl | rfl | rfl | rfl <;> revert a <;> decide +kernel) x

/-- The self scales as the region finds them: one row. -/
theorem V_row : (V m c main_v0 : Vec Ideal S1x640 .f32) = shapeCast S1x640 (T m c) rfl := by
  entry_read
  rfl

/-- … and its column scales. -/
theorem x4_apply (t : Fin cfg0.N) (o : Fin 640) :
    (iblk m c 4 t : Vec Ideal S1x640 .f32) (ix2 0 o) = T m c (ix1 o) := by
  have h : (iblk m c 4 t : Vec Ideal S1x640 .f32) = shapeCast S1x640 (T m c) rfl := by
    rw [← V_row]
    funext x
    show (V m c main_v0 : Vec Ideal S1x640 .f32) ((win0_4.rect t).emb x) = _
    refine congrArg (V m c main_v0 : Vec Ideal S1x640 .f32) (funext fun a => Fin.ext ?_)
    exact win0_4.rect_emb_val_of_index_zero t a (by
      rcases fin_N0 t with rfl | rfl | rfl | rfl | rfl | rfl <;> revert a <;> decide +kernel) x
  rw [h]
  refine shapeCast_apply _ _ (ix2 0 o) (ix1 o) ?_
  rw [rowMajor_val1, rowMajor_val2 _ 640 rfl]
  show o.val = 0 * 640 + o.val
  omega

/-- A group of a block is the group of the array at the block's row. -/
theorem grp_blk (t : Fin cfg0.N) (r : Fin 256) (g : Fin 8) :
    grp (iblk m c 0 t : Vec Ideal S256x1024 .bf16) r g = grp (X m c) (row (pt t) r) g :=
  funext fun _ => x0_apply m c t r _

end KernelArr
-- ==== Proof.KernelFinal.lean ====
/-
  THE KERNEL'S FINAL ARRAYS: window by window, the blocks the grid writes and the whole-array function they make up.
-/
module

public import proofs.«01_k».proof.Proof.KernelArr

@[expose] public section

namespace KernelArr

open Idealize.ShloMosaic Idealize.ShloMosaic.TcCoe Cert.KernelIdeal Cert.KernelIdeal.Gen Rows
open Idealize.ShloMosaic.Pipeline (Dat)

attribute [local instance] Cert.KernelIdeal.Gen.facts

variable (m : (ℓ : Loc nD τ sig) → Buf (Elt Ideal) ℓ) (c : Dev nD)

/-- The block of rows a row lies in. -/
def blkOf (r : Fin 1536) : Fin cfg0.N := ⟨r.val / 256, by have : cfg0.N = 6 := N_0; omega⟩

/-- A block `Y` whose entries are those of `G` under point `t`'s block is what reading `G` there gives. -/
theorem read5 (t : Fin cfg0.N) (Y : Vec Ideal S256x1024 .fp8e4m3) (G : Vec Ideal S1536x1024 .fp8e4m3)
    (h : ∀ x : S256x1024.Idx, Y x = G ((win0_5.rect t).emb x)) :
    (cfg0.win 5).cut (grid0.coords t) Y = (win0_5.blk t).view.read (Elt Ideal) G := funext h

/-- Where an entry of a block lies in the array. -/
theorem emb5 (t : Fin cfg0.N) (r : Fin 256) (k : Fin 1024) :
    ((win0_5.rect t).emb (ix2 r k) : S1536x1024.Idx) = ix2 (row (pt t) r) k := by
  have e : win0_5.index t 0 = t.val ∧ win0_5.index t 1 = 0 := by
    rcases fin_N0 t with rfl | rfl | rfl | rfl | rfl | rfl <;> decide +kernel
  funext a
  apply Fin.ext
  match a with
  | ⟨0, _⟩ =>
    show win0_5.index t 0 * 256 + 1 * r.val = 256 * t.val + r.val
    rw [e.1]; omega
  | ⟨1, _⟩ =>
    show win0_5.index t 1 * 1024 + 1 * k.val = k.val
    rw [e.2]; omega

/-- What a point writes back is its block of that function. -/
theorem flushed5 (t : Fin cfg0.N) :
    (dats m 0 c).flushed 5 t = (win0_5.blk t).view.read (Elt Ideal) (kCodes (X m c)) := by
  rw [Cert.KernelIdeal.Value.flushed5]
  refine read5 t _ _ fun x => ?_
  obtain ⟨r, k, rfl⟩ : ∃ (r : Fin 256) (k : Fin 1024), x = ix2 r k := ⟨x 0, x 1, eq_ix2 x⟩
  rw [Block.out5_val]
  refine Eq.trans ?_ (congrArg (kCodes (X m c)) (emb5 t r k).symm)
  exact kCodes_row (X' := X m c) (r' := row (pt t) r) (x0_apply m c t r) k

/-- The blocks cover the array. -/
theorem cover5 (i : S1536x1024.Idx) : ∃ t : Fin cfg0.N, (cfg0.win 5).flush t = true ∧ i ∈ ((cfg0.win 5).blk t).view.set := by
  obtain ⟨r, k, rfl⟩ : ∃ (r : Fin 1536) (k : Fin 1024), i = ix2 r k := ⟨i 0, i 1, eq_ix2 i⟩
  refine ⟨blkOf r, flush0_5 _, ?_⟩
  have hx : ix2 r k = (win0_5.rect (blkOf r)).emb (ix2 (⟨r.val % 256, by omega⟩ : Fin 256) k) := by
    refine Eq.trans ?_ (emb5 (blkOf r) ⟨r.val % 256, by omega⟩ k).symm
    congr 1
    apply Fin.ext
    show r.val = 256 * (r.val / 256) + r.val % 256
    omega
  rw [hx]
  exact ((cfg0.win 5).blk (blkOf r)).view.emb_mem_set _

/-- The array at the end. -/
theorem final5 : (dats m 0 c).arrAt 5 cfg0.N = kCodes (X m c) :=
  (dats m 0 c).arrAt_eq_of_cover 5 (kCodes (X m c)) (fun t _ => flushed5 m c t) cover5

/-- A block `Y` whose entries are those of `G` under point `t`'s block is what reading `G` there gives. -/
theorem read6 (t : Fin cfg0.N) (Y : Vec Ideal S256x8 .f32) (G : Vec Ideal S1536x8 .f32)
    (h : ∀ x : S256x8.Idx, Y x = G ((win0_6.rect t).emb x)) :
    (cfg0.win 6).cut (grid0.coords t) Y = (win0_6.blk t).view.read (Elt Ideal) G := funext h

/-- Where an entry of a block lies in the array. -/
theorem emb6 (t : Fin cfg0.N) (r : Fin 256) (k : Fin 8) :
    ((win0_6.rect t).emb (ix2 r k) : S1536x8.Idx) = ix2 (row (pt t) r) k := by
  have e : win0_6.index t 0 = t.val ∧ win0_6.index t 1 = 0 := by
    rcases fin_N0 t with rfl | rfl | rfl | rfl | rfl | rfl <;> decide +kernel
  funext a
  apply Fin.ext
  match a with
  | ⟨0, _⟩ =>
    show win0_6.index t 0 * 256 + 1 * r.val = 256 * t.val + r.val
    rw [e.1]; omega
  | ⟨1, _⟩ =>
    show win0_6.index t 1 * 8 + 1 * k.val = k.val
    rw [e.2]; omega

/-- What a point writes back is its block of that function. -/
theorem flushed6 (t : Fin cfg0.N) :
    (dats m 0 c).flushed 6 t = (win0_6.blk t).view.read (Elt Ideal) (kScales (X m c)) := by
  rw [Cert.KernelIdeal.Value.flushed6]
  refine read6 t _ _ fun x => ?_
  obtain ⟨r, k, rfl⟩ : ∃ (r : Fin 256) (k : Fin 8), x = ix2 r k := ⟨x 0, x 1, eq_ix2 x⟩
  rw [Block.out6_val]
  refine Eq.trans ?_ (congrArg (kScales (X m c)) (emb6 t r k).symm)
  exact kScales_row (X' := X m c) (r' := row (pt t) r) (x0_apply m c t r) k

/-- The blocks cover the array. -/
theorem cover6 (i : S1536x8.Idx) : ∃ t : Fin cfg0.N, (cfg0.win 6).flush t = true ∧ i ∈ ((cfg0.win 6).blk t).view.set := by
  obtain ⟨r, k, rfl⟩ : ∃ (r : Fin 1536) (k : Fin 8), i = ix2 r k := ⟨i 0, i 1, eq_ix2 i⟩
  refine ⟨blkOf r, flush0_6 _, ?_⟩
  have hx : ix2 r k = (win0_6.rect (blkOf r)).emb (ix2 (⟨r.val % 256, by omega⟩ : Fin 256) k) := by
    refine Eq.trans ?_ (emb6 (blkOf r) ⟨r.val % 256, by omega⟩ k).symm
    congr 1
    apply Fin.ext
    show r.val = 256 * (r.val / 256) + r.val % 256
    omega
  rw [hx]
  exact ((cfg0.win 6).blk (blkOf r)).view.emb_mem_set _

/-- The array at the end. -/
theorem final6 : (dats m 0 c).arrAt 6 cfg0.N = kScales (X m c) :=
  (dats m 0 c).arrAt_eq_of_cover 6 (kScales (X m c)) (fun t _ => flushed6 m c t) cover6

/-- The self scales of every point, as a function of the column. -/
theorem x4_eq (t : Fin cfg0.N) :
    (fun o : Fin 640 => (iblk m c 4 t : Vec Ideal S1x640 .f32) (ix2 0 o)) = fun o => T m c (ix1 o) :=
  funext fun o => x4_apply m c t o

/-- A block `Y` whose entries are those of `G` under point `t`'s block is what reading `G` there gives. -/
theorem read8 (t : Fin cfg0.N) (Y : Vec Ideal S256x640 .f32) (G : Vec Ideal S1536x640 .f32)
    (h : ∀ x : S256x640.Idx, Y x = G ((win0_8.rect t).emb x)) :
    (cfg0.win 8).cut (grid0.coords t) Y = (win0_8.blk t).view.read (Elt Ideal) G := funext h

/-- Where an entry of a block lies in the array. -/
theorem emb8 (t : Fin cfg0.N) (r : Fin 256) (k : Fin 640) :
    ((win0_8.rect t).emb (ix2 r k) : S1536x640.Idx) = ix2 (row (pt t) r) k := by
  have e : win0_8.index t 0 = t.val ∧ win0_8.index t 1 = 0 := by
    rcases fin_N0 t with rfl | rfl | rfl | rfl | rfl | rfl <;> decide +kernel
  funext a
  apply Fin.ext
  match a with
  | ⟨0, _⟩ =>
    show win0_8.index t 0 * 256 + 1 * r.val = 256 * t.val + r.val
    rw [e.1]; omega
  | ⟨1, _⟩ =>
    show win0_8.index t 1 * 640 + 1 * k.val = k.val
    rw [e.2]; omega

/-- What a point writes back is its block of that function. -/
theorem flushed8 (t : Fin cfg0.N) :
    (dats m 0 c).flushed 8 t = (win0_8.blk t).view.read (Elt Ideal) (selfOf (kDeqs (X m c)) (W m c) (T m c)) := by
  rw [Cert.KernelIdeal.Value.flushed8]
  refine read8 t _ _ fun x => ?_
  obtain ⟨r, k, rfl⟩ : ∃ (r : Fin 256) (k : Fin 640), x = ix2 r k := ⟨x 0, x 1, eq_ix2 x⟩
  rw [Block.out8_val]
  refine Eq.trans ?_ (congrArg (selfOf (kDeqs (X m c)) (W m c) (T m c)) (emb8 t r k).symm)
  refine Eq.trans ?_ (scaledDot_row (D' := kDeqs (X m c)) (r' := row (pt t) r)
    (kDeqs_row (X' := X m c) (r' := row (pt t) r) (x0_apply m c t r)) (fun k o => W m c (ix2 k o)) (fun o => T m c (ix1 o)) k)
  show scaledDot (kDeqs (iblk m c 0 t : Vec Ideal S256x1024 .bf16))
      (fun k o => (iblk m c 3 t : Vec Ideal S1024x640 .fp8e4m3) (ix2 k o))
      (fun o => (iblk m c 4 t : Vec Ideal S1x640 .f32) (ix2 0 o)) r k = _
  rw [x4_eq, x3_eq]

/-- The blocks cover the array. -/
theorem cover8 (i : S1536x640.Idx) : ∃ t : Fin cfg0.N, (cfg0.win 8).flush t = true ∧ i ∈ ((cfg0.win 8).blk t).view.set := by
  obtain ⟨r, k, rfl⟩ : ∃ (r : Fin 1536) (k : Fin 640), i = ix2 r k := ⟨i 0, i 1, eq_ix2 i⟩
  refine ⟨blkOf r, flush0_8 _, ?_⟩
  have hx : ix2 r k = (win0_8.rect (blkOf r)).emb (ix2 (⟨r.val % 256, by omega⟩ : Fin 256) k) := by
    refine Eq.trans ?_ (emb8 (blkOf r) ⟨r.val % 256, by omega⟩ k).symm
    congr 1
    apply Fin.ext
    show r.val = 256 * (r.val / 256) + r.val % 256
    omega
  rw [hx]
  exact ((cfg0.win 8).blk (blkOf r)).view.emb_mem_set _

/-- The array at the end. -/
theorem final8 : (dats m 0 c).arrAt 8 cfg0.N = selfOf (kDeqs (X m c)) (W m c) (T m c) :=
  (dats m 0 c).arrAt_eq_of_cover 8 (selfOf (kDeqs (X m c)) (W m c) (T m c)) (fun t _ => flushed8 m c t) cover8

/-- A block `Y` whose entries are those of `G` under point `t`'s block is what reading `G` there gives. -/
theorem read7 (t : Fin cfg0.N) (Y : Vec Ideal S1x4x256x640 .f32) (G : Vec Ideal S6x4x256x640 .f32)
    (h : ∀ x : S1x4x256x640.Idx, Y x = G ((win0_7.rect t).emb x)) :
    (cfg0.win 7).cut (grid0.coords t) Y = (win0_7.blk t).view.read (Elt Ideal) G := funext h

/-- Where an entry of a block lies in the array. -/
theorem emb7 (t : Fin cfg0.N) (b : Fin 4) (r : Fin 256) (k : Fin 640) :
    ((win0_7.rect t).emb (ix4 (n0 := 1) 0 b r k) : S6x4x256x640.Idx) = ix4 (pt t) b r k := by
  have e : win0_7.index t 0 = t.val ∧ win0_7.index t 1 = 0 ∧ win0_7.index t 2 = 0 ∧ win0_7.index t 3 = 0 := by
    rcases fin_N0 t with rfl | rfl | rfl | rfl | rfl | rfl <;> decide +kernel
  funext a
  apply Fin.ext
  match a with
  | ⟨0, _⟩ =>
    show win0_7.index t 0 * 1 + 1 * 0 = t.val
    rw [e.1]; omega
  | ⟨1, _⟩ =>
    show win0_7.index t 1 * 4 + 1 * b.val = b.val
    rw [e.2.1]; omega
  | ⟨2, _⟩ =>
    show win0_7.index t 2 * 256 + 1 * r.val = r.val
    rw [e.2.2.1]; omega
  | ⟨3, _⟩ =>
    show win0_7.index t 3 * 640 + 1 * k.val = k.val
    rw [e.2.2.2]; omega

/-- What a point writes back is its block of that function. -/
theorem flushed7 (t : Fin cfg0.N) :
    (dats m 0 c).flushed 7 t = (win0_7.blk t).view.read (Elt Ideal) (basisOf (kDeqs (X m c)) (B m c) (S m c)) := by
  rw [Cert.KernelIdeal.Value.flushed7]
  refine read7 t _ _ fun x => ?_
  obtain ⟨b, r, k, rfl⟩ : ∃ (b : Fin 4) (r : Fin 256) (k : Fin 640), x = ix4 (n0 := 1) 0 b r k := by
    refine ⟨x 1, x 2, x 3, (eq_ix4 x).trans ?_⟩
    congr 1
    exact Subsingleton.elim (α := Fin 1) _ _
  rw [Block.out7_val]
  refine Eq.trans ?_ (congrArg (basisOf (kDeqs (X m c)) (B m c) (S m c)) (emb7 t b r k).symm)
  refine Eq.trans ?_ (scaledDot_row (D' := kDeqs (X m c)) (r' := row (pt t) r)
    (kDeqs_row (X' := X m c) (r' := row (pt t) r) (x0_apply m c t r)) (fun k o => B m c (ix3 b k o))
    (fun o => S m c (ix2 b o)) k)
  show scaledDot (kDeqs (iblk m c 0 t : Vec Ideal S256x1024 .bf16))
      (fun k o => (iblk m c 1 t : Vec Ideal S4x1024x640 .fp8e4m3) (ix3 b k o))
      (fun o => (iblk m c 2 t : Vec Ideal S4x640 .f32) (ix2 b o)) r k = _
  rw [x1_eq, x2_eq]

/-- The blocks cover the array. -/
theorem cover7 (i : S6x4x256x640.Idx) :
    ∃ t : Fin cfg0.N, (cfg0.win 7).flush t = true ∧ i ∈ ((cfg0.win 7).blk t).view.set := by
  obtain ⟨g, b, r, k, rfl⟩ : ∃ (g : Fin 6) (b : Fin 4) (r : Fin 256) (k : Fin 640), i = ix4 g b r k :=
    ⟨i 0, i 1, i 2, i 3, eq_ix4 i⟩
  obtain ⟨t, rfl⟩ : ∃ t : Fin cfg0.N, g = pt t :=
    ⟨⟨g.val, by have hN : cfg0.N = 6 := N_0; omega⟩, rfl⟩
  refine ⟨t, flush0_7 _, ?_⟩
  rw [← emb7 t b r k]
  exact ((cfg0.win 7).blk t).view.emb_mem_set _

/-- The array at the end. -/
theorem final7 : (dats m 0 c).arrAt 7 cfg0.N = basisOf (kDeqs (X m c)) (B m c) (S m c) :=
  (dats m 0 c).arrAt_eq_of_cover 7 (basisOf (kDeqs (X m c)) (B m c) (S m c)) (fun t _ => flushed7 m c t) cover7

end KernelArr
-- ==== Proof.RefQuant.lean ====
/-
  THE REFERENCE'S QUANTISATION, read at an index: its scales, its codes and the dequantised rows.
-/
module

public import proofs.«01_k».proof.Proof.Rows
public import proofs.«01_k».proof.Proof.Gen.ReferenceIdeal.Frame
public import Idealize.ShloMosaic.Lib.Pipeline.ValueKit.Tiles
public import Idealize.ShloMosaic.Lib.Pipeline.Value
public import Idealize.ShloMosaic.Lib.ValueIdx
public import Idealize.ShloMosaic.Lib.Pointwise.ElementwiseCore
public import Idealize.ShloMosaic.Lib.Pointwise.Reshape
public import Idealize.ShloMosaic.Lib.Pointwise.Index

@[expose] public section

namespace RefBlock

open Idealize.ShloMosaic Cert.ReferenceIdeal Cert.ReferenceIdeal.Gen Rows

attribute [local instance] Cert.ReferenceIdeal.Gen.facts

variable (x : Vec Ideal S1536x1024 .bf16)

/-- An entry of a group. -/
theorem entry_apply (r : Fin 1536) (g : Fin 8) (k : Fin 128) :
    (k0_pay4 x : FVec Ideal S1536x8x128 .f32) (ix3 r g k) = grp x r g k := by
  unfold k0_pay4
  rw [shapeCast_apply _ _ (ix3 r g k) (ix2 r (⟨128 * g.val + k.val, by omega⟩ : Fin 1024)) (by
    rw [rowMajor_val2 _ 1024 rfl, rowMajor_val3 _ 1024 128 rfl rfl]
    show r.val * 1024 + (128 * g.val + k.val) = r.val * 1024 + g.val * 128 + k.val
    omega)]
  rfl

/-- The index a maximum over the last axis reads. -/
theorem lift_group (h : S1536x8x128.Reduces [2] S1536x8) (r : Fin 1536) (g : Fin 8) (k : Fin 128) :
    h.lift (ix2 r g) k = ix3 r g k := by
  funext a
  match a with
  | ⟨0, _⟩ => rfl
  | ⟨1, _⟩ => rfl
  | ⟨2, _⟩ => rfl

/-- The maximum over the last axis, at a group. -/
theorem max_group (z : FVec Ideal S1536x8x128 .f32) (h : S1536x8x128.Reduces [2] S1536x8) (hφ : FKind.Formats .f32)
    (hacc : 0xFF800000#32 = FKind.maximumf.neutral .f32 hφ) (r : Fin 1536) (g : Fin 8) :
    multiReduction .maximumf [2] S1536x8 z 0xFF800000#32 h hφ hacc (ix2 r g)
      = (Finset.univ : Finset (Fin 128)).fold max (FloatOps.ofBits (F := Ideal) .f32 0xFF800000#32)
        (fun k => z (ix3 r g k)) := by
  refine (Ideal.multiReduction_maximumf_single z _ h hφ hacc (ix2 r g)).trans ?_
  exact congrArg (fun g : Fin 128 → EReal => (Finset.univ : Finset (Fin 128)).fold max _ g)
    (funext fun k => congrArg z (lift_group h r g k))

/-- The levels: the largest magnitude of a group times 1/448. -/
noncomputable def levels : FVec Ideal S1536x8 .f32 :=
  mulf (multiReduction .maximumf [2] S1536x8 (absf (k0_pay4 x)) 0xFF800000#32 reduces_S1536x8x128_S1536x8 (.inl rfl) rfl)
    (broadcast S1536x8 (FloatOps.ofBits (F := Ideal) .f32 0x3B124925#32))

theorem levels_apply (r : Fin 1536) (g : Fin 8) : levels x (ix2 r g) = Group.lvl (grp x r g) := by
  unfold levels
  rw [ValueIdx.mulf_apply, ValueIdx.broadcast_apply]
  unfold Group.lvl Group.top
  refine congrArg (fun t : EReal => t * FloatOps.ofBits (F := Ideal) .f32 0x3B124925#32) ?_
  refine (max_group (absf (k0_pay4 x)) reduces_S1536x8x128_S1536x8 _ _ r g).trans ?_
  refine congrArg (fun g : Fin 128 → EReal => (Finset.univ : Finset (Fin 128)).fold max _ g) (funext fun k => ?_)
  rw [← entry_apply]
  rfl

/-- The exponents from levels. -/
noncomputable def exps (v : FVec Ideal S1536x8 .f32) : FVec Ideal S1536x8 .f32 :=
  select (cmpf .olt v (broadcast S1536x8 (FloatOps.ofBits (F := Ideal) .f32 0x00800000#32)))
    (broadcast S1536x8 (FloatOps.ofBits (F := Ideal) .f32 0x00000000#32))
    (addf (floor (divf (log v) (log (broadcast S1536x8 (FloatOps.ofBits (F := Ideal) .f32 0x40000000#32)))))
      (broadcast S1536x8 (FloatOps.ofBits (F := Ideal) .f32 0x3F800000#32)))

theorem exps_def (v : FVec Ideal S1536x8 .f32) (i : S1536x8.Idx) : exps v i = Group.rExp (v i) := rfl

theorem exps_eq : (k0_pay6 x : FVec Ideal S1536x8 .f32) = exps (levels x) := rfl

/-- The exponent of a group. -/
theorem exps_apply (r : Fin 1536) (g : Fin 8) :
    (k0_pay6 x : FVec Ideal S1536x8 .f32) (ix2 r g) = Group.rExp (Group.lvl (grp x r g)) := by
  rw [exps_eq, exps_def, levels_apply]

/-- The powers of two. -/
noncomputable def pows (e : FVec Ideal S1536x8 .f32) : FVec Ideal S1536x8 .f32 := powf (k0_pay5 (F := Ideal)) e

theorem pows_apply (e : FVec Ideal S1536x8 .f32) (i : S1536x8.Idx) :
    pows e i = Ideal.pow (FloatOps.ofBits (F := Ideal) .f32 0x40000000#32) (e i) := rfl

/-- The scale of a group. -/
theorem scales_apply (r : Fin 1536) (g : Fin 8) :
    (k0_pay7 x : FVec Ideal S1536x8 .f32) (ix2 r g) = Group.rScale (Group.lvl (grp x r g)) := by
  unfold Group.rScale
  rw [← exps_apply]
  exact pows_apply (k0_pay6 x) (ix2 r g)

/-- The inverse scales. -/
noncomputable def invs : FVec Ideal S1536x8 .f32 :=
  pows (subf (broadcast S1536x8 (FloatOps.ofBits (F := Ideal) .f32 0x00000000#32)) (k0_pay6 x))

theorem invs_apply (r : Fin 1536) (g : Fin 8) : invs x (ix2 r g) = Group.rInv (Group.lvl (grp x r g)) := by
  unfold Group.rInv
  rw [← exps_apply]
  unfold invs
  rw [pows_apply, ValueIdx.subf_apply, ValueIdx.broadcast_apply]

/-- A value of a group repeated over its entries. -/
theorem spread_apply {φ : FTy} (z : FVec Ideal S1536x8 φ) (r : Fin 1536) (g : Fin 8) (k : Fin 128) :
    broadcastTo S1536x8x128 (shapeCast S1536x8x1 z shapeCasts_S1536x8_S1536x8x1) broadcasts_S1536x8x1_S1536x8x128 (ix3 r g k)
      = z (ix2 r g) := by
  refine (broadcastTo_apply _ broadcasts_S1536x8x1_S1536x8x128 (ix3 r g k) (ix3 r g (0 : Fin 1)) (by
    intro a
    match a with
    | ⟨0, _⟩ => rfl
    | ⟨1, _⟩ => rfl
    | ⟨2, _⟩ => rfl)).trans ?_
  refine shapeCast_apply _ _ (ix3 r g (0 : Fin 1)) (ix2 r g) ?_
  rw [rowMajor_val2 _ 8 rfl, rowMajor_val3 _ 8 1 rfl rfl]
  show r.val * 8 + g.val = r.val * 8 + g.val * 1 + 0
  omega

/-- Scaling and clipping. -/
noncomputable def clips (a z : FVec Ideal S1536x8x128 .f32) : FVec Ideal S1536x8x128 .fp8e4m3 :=
  truncf .fp8e4m3 (minimumf (broadcast S1536x8x128 (FloatOps.ofBits (F := Ideal) .f32 0x43E00000#32))
    (maximumf (broadcast S1536x8x128 (FloatOps.ofBits (F := Ideal) .f32 0xC3E00000#32)) (mulf a z))) bitsLt_fp8e4m3_f32

theorem clips_apply (a z : FVec Ideal S1536x8x128 .f32) (i : S1536x8x128.Idx) : clips a z i = Group.clip (a i * z i) := rfl

/-- A code of a group. -/
theorem codes3_apply (r : Fin 1536) (g : Fin 8) (k : Fin 128) :
    (k0_pay8 x : FVec Ideal S1536x8x128 .fp8e4m3) (ix3 r g k) = Group.rCode (grp x r g) k := by
  unfold Group.rCode
  rw [← invs_apply, ← entry_apply, ← spread_apply (invs x) r g k]
  exact clips_apply (k0_pay4 x) _ (ix3 r g k)

/-- A column is a place in a group. -/
theorem flat_pos (r : Fin 1536) (c : Fin 1024) :
    (S1536x8x128.rowMajor (ix3 r (cg c) (ck c))).val = (S1536x1024.rowMajor (ix2 r c)).val := by
  rw [rowMajor_val2 _ 1024 rfl, rowMajor_val3 _ 1024 128 rfl rfl]
  show r.val * 1024 + c.val / 128 * 128 + c.val % 128 = r.val * 1024 + c.val
  omega

/-- A code of the array. -/
theorem codes_apply (r : Fin 1536) (c : Fin 1024) :
    (k0_pay9 x : FVec Ideal S1536x1024 .fp8e4m3) (ix2 r c) = rCodes x (ix2 r c) := by
  unfold k0_pay9
  rw [shapeCast_apply _ _ (ix2 r c) (ix3 r (cg c) (ck c)) (flat_pos r c)]
  exact codes3_apply x r (cg c) (ck c)

/-- A dequantised entry of a group. -/
theorem deqs3_apply (r : Fin 1536) (g : Fin 8) (k : Fin 128) :
    mulf (extf .bf16 (k0_pay8 x) bitsLt_fp8e4m3_bf16) (broadcastTo S1536x8x128
      (shapeCast S1536x8x1 (truncf .bf16 (k0_pay7 x) bitsLt_bf16_f32) shapeCasts_S1536x8_S1536x8x1)
      broadcasts_S1536x8x1_S1536x8x128) (ix3 r g k) = Group.rDeq (grp x r g) k := by
  unfold Group.rDeq
  rw [ValueIdx.mulf_apply, spread_apply, ValueIdx.extf_apply, ValueIdx.truncf_apply, codes3_apply, scales_apply]

/-- A dequantised entry of the array. -/
theorem deqs_apply (r : Fin 1536) (c : Fin 1024) :
    (k0_pay10 x : FVec Ideal S1536x1024 .bf16) (ix2 r c) = rDeqs x r c := by
  unfold k0_pay10
  rw [shapeCast_apply _ _ (ix2 r c) (ix3 r (cg c) (ck c)) (flat_pos r c)]
  exact deqs3_apply x r (cg c) (ck c)

end RefBlock
-- ==== Proof.RefProd.lean ====
/-
  THE REFERENCE'S PRODUCTS and its four results as whole-array functions.
-/
module

public import proofs.«01_k».proof.Proof.RefQuant
public import proofs.«01_k».proof.Proof.RowsLocal
public import proofs.«01_k».proof.Proof.Gen.ReferenceIdeal.Value
public import Idealize.ShloMosaic.Lib.MatmulPlain

@[expose] public section

namespace RefBlock

open Idealize.ShloMosaic Cert.ReferenceIdeal Cert.ReferenceIdeal.Gen Rows

attribute [local instance] Cert.ReferenceIdeal.Gen.facts

variable (x : Vec Ideal S1536x1024 .bf16) (x1 : Vec Ideal S4x1024x640 .fp8e4m3) (x2 : Vec Ideal S4x640 .f32)
  (x3 : Vec Ideal S1024x640 .fp8e4m3) (x4 : Vec Ideal S640 .f32)

/-- The two spellings of a matrix index. -/
theorem ix2_same {m n : ℕ} (a : Fin m) (b : Fin n) : ValueIdx.ix2 a b = ix2 a b := by
  funext i
  match i with
  | ⟨0, _⟩ => rfl
  | ⟨1, _⟩ => rfl

/-- The printed product from a zero accumulator, at an index. -/
theorem dot_apply (D : FVec Ideal S1536x1024 .bf16) (B : FVec Ideal S1024x640 .bf16) (r : Fin 1536) (o : Fin 640) :
    matmul dot_S1536x1024_S1024x640_S1536x640_1_0_0_1_n_n none D B (constant S1536x640 .f32 0x00000000#32) (ix2 r o)
      = ∑ k : Fin 1024, D (ix2 r k) * B (ix2 k o) := by
  refine (Ideal.matmul_plain_apply none D B (constant S1536x640 .f32 0x00000000#32) r o).trans ?_
  rw [ValueIdx.constant_apply, Ideal.ofBits_zero_f32, zero_add]
  exact Finset.sum_congr rfl fun k _ => by rw [ix2_same, ix2_same]

/-- A row of column scales repeated down the array. -/
theorem down_apply (s : FVec Ideal S1x640 .f32) (r : Fin 1536) (o : Fin 640) :
    broadcastTo S1536x640 s broadcasts_S1x640_S1536x640 (ix2 r o) = s (ix2 0 o) :=
  broadcastTo_apply _ broadcasts_S1x640_S1536x640 (ix2 r o) (ix2 0 o) (by
    intro a
    match a with
    | ⟨0, _⟩ => rfl
    | ⟨1, _⟩ => rfl)

/-- One basis product. -/
noncomputable def prod (b : Vec Ideal S1x1024x640 .fp8e4m3) (s : Vec Ideal S1x640 .f32) : FVec Ideal S1536x640 .f32 :=
  mulf (matmul dot_S1536x1024_S1024x640_S1536x640_1_0_0_1_n_n none (k0_pay10 x : FVec Ideal S1536x1024 .bf16)
    (extf .bf16 (shapeCast S1024x640 b shapeCasts_S1x1024x640_S1024x640) bitsLt_fp8e4m3_bf16)
    (constant S1536x640 .f32 0x00000000#32)) (broadcastTo S1536x640 s broadcasts_S1x640_S1536x640)

theorem prod_apply (b : Vec Ideal S1x1024x640 .fp8e4m3) (s : Vec Ideal S1x640 .f32) (r : Fin 1536) (o : Fin 640) :
    prod x b s (ix2 r o) = scaledDot (rDeqs x) (fun k o => b (ix3 0 k o)) (fun o => s (ix2 0 o)) r o := by
  unfold prod scaledDot
  rw [ValueIdx.mulf_apply, dot_apply, down_apply]
  congr 1
  refine Finset.sum_congr rfl fun k _ => ?_
  rw [deqs_apply, ValueIdx.extf_apply]
  congr 1
  refine shapeCast_apply _ _ (ix2 k o) (ix3 0 k o) ?_
  rw [rowMajor_val2 _ 640 rfl, rowMajor_val3 _ 655360 640 rfl rfl]
  show 0 * 655360 + k.val * 640 + o.val = k.val * 640 + o.val
  omega

/-- The self product at an index. -/
theorem self_apply (r : Fin 1536) (o : Fin 640) :
    k0_pay3 (k0_pay10 x : FVec Ideal S1536x1024 .bf16) x3 x4 (ix2 r o)
      = scaledDot (rDeqs x) (fun k o => x3 (ix2 k o)) (fun o => x4 (ix1 o)) r o := by
  unfold k0_pay3 scaledDot
  rw [ValueIdx.mulf_apply, dot_apply, down_apply, shapeCast_apply x4 _ (ix2 0 o) (ix1 o) (by
    rw [rowMajor_val1, rowMajor_val2 _ 640 rfl]; show o.val = 0 * 640 + o.val; omega)]
  congr 1
  exact Finset.sum_congr rfl fun k _ => by rw [deqs_apply, ValueIdx.extf_apply]

/-- Basis matrix `b`. -/
abbrev rectB (b : Fin 4) : Rect S4x1024x640 := Rect.unit (s := S4x1024x640) ![b.val, 0, 0] S1x1024x640.size (by
  intro a
  match a with
  | ⟨0, _⟩ => show b.val + 1 ≤ 4; omega
  | ⟨1, _⟩ => show 0 + 1024 ≤ 1024; omega
  | ⟨2, _⟩ => show 0 + 640 ≤ 640; omega)
/-- Its column scales. -/
abbrev rectS (b : Fin 4) : Rect S4x640 := Rect.unit (s := S4x640) ![b.val, 0] S1x640.size (by
  intro a
  match a with
  | ⟨0, _⟩ => show b.val + 1 ≤ 4; omega
  | ⟨1, _⟩ => show 0 + 640 ≤ 640; omega)
/-- Its product's place. -/
abbrev rectO (b : Fin 4) : Rect S6x4x256x640 := Rect.unit (s := S6x4x256x640) ![0, b.val, 0, 0] S6x1x256x640.size (by
  intro a
  match a with
  | ⟨0, _⟩ => show 0 + 6 ≤ 6; omega
  | ⟨1, _⟩ => show b.val + 1 ≤ 4; omega
  | ⟨2, _⟩ => show 0 + 256 ≤ 256; omega
  | ⟨3, _⟩ => show 0 + 640 ≤ 640; omega)

/-- Basis matrix `b`, loaded. -/
def matB (b : Fin 4) : Vec Ideal S1x1024x640 .fp8e4m3 := View.ld x1 (rectB b)
/-- Its column scales, loaded. -/
def matS (b : Fin 4) : Vec Ideal S1x640 .f32 := View.ld x2 (rectS b)

theorem matB_apply (b : Fin 4) (k : Fin 1024) (o : Fin 640) : matB x1 b (ix3 0 k o) = x1 (ix3 b k o) := by
  unfold matB
  refine View.ld_unit_apply_of x1 _ _ _ _ _ ?_
  intro a
  match a with
  | ⟨0, _⟩ => rfl
  | ⟨1, _⟩ => show k.val = 0 + k.val; omega
  | ⟨2, _⟩ => show o.val = 0 + o.val; omega

theorem matS_apply (b : Fin 4) (o : Fin 640) : matS x2 b (ix2 0 o) = x2 (ix2 b o) := by
  unfold matS
  refine View.ld_unit_apply_of x2 _ _ _ _ _ ?_
  intro a
  match a with
  | ⟨0, _⟩ => rfl
  | ⟨1, _⟩ => show o.val = 0 + o.val; omega

/-- The stored form of a product: by block of rows. -/
noncomputable def stored (p : FVec Ideal S1536x640 .f32) : FVec Ideal S6x1x256x640 .f32 :=
  shapeCast S6x1x256x640 (shapeCast S6x256x640 p shapeCasts_S1536x640_S6x256x640) shapeCasts_S6x256x640_S6x1x256x640

theorem stored_apply (p : FVec Ideal S1536x640 .f32) (t : Fin 6) (r : Fin 256) (o : Fin 640) :
    stored p (ix4 t 0 r o) = p (ix2 (row t r) o) := by
  unfold stored
  rw [shapeCast_apply _ _ (ix4 t 0 r o) (ix3 t r o) (by
    rw [rowMajor_val3 _ 163840 640 rfl rfl, rowMajor_val4 _ 163840 163840 640 rfl rfl rfl]
    show t.val * 163840 + r.val * 640 + o.val = t.val * 163840 + 0 * 163840 + r.val * 640 + o.val
    omega)]
  refine shapeCast_apply _ _ (ix3 t r o) (ix2 (row t r) o) ?_
  rw [rowMajor_val2 _ 640 rfl, rowMajor_val3 _ 163840 640 rfl rfl]
  show (256 * t.val + r.val) * 640 + o.val = t.val * 163840 + r.val * 640 + o.val
  omega

/-- A stored product at an index of its place. -/
theorem stored_prod (b : Fin 4) (t : Fin 6) (r : Fin 256) (o : Fin 640) :
    stored (prod x (matB x1 b) (matS x2 b)) (ix4 t 0 r o) = basisOf (rDeqs x) x1 x2 (ix4 t b r o) := by
  rw [stored_apply, prod_apply, basisOf_apply]
  simp only [matB_apply, matS_apply]

/-- Where that place is. -/
theorem emb_place (b : Fin 4) (t : Fin 6) (r : Fin 256) (o : Fin 640) :
    ((rectO b).emb (ix4 (n1 := 1) t 0 r o) : S6x4x256x640.Idx) = ix4 t b r o := by
  funext a
  apply Fin.ext
  match a with
  | ⟨0, _⟩ => show 0 + 1 * t.val = t.val; omega
  | ⟨1, _⟩ => show b.val + 1 * 0 = b.val; omega
  | ⟨2, _⟩ => show 0 + 1 * r.val = r.val; omega
  | ⟨3, _⟩ => show 0 + 1 * o.val = o.val; omega

/-- A stored product is the whole array of products at its place. -/
theorem prods_piece (b : Fin 4) (y : S6x1x256x640.Idx) :
    stored (prod x (matB x1 b) (matS x2 b)) y = basisOf (rDeqs x) x1 x2 ((rectO b).emb y) := by
  obtain ⟨t, r, o, rfl⟩ : ∃ (t : Fin 6) (r : Fin 256) (o : Fin 640), y = ix4 (n1 := 1) t 0 r o := by
    refine ⟨y 0, y 2, y 3, (eq_ix4 y).trans ?_⟩
    congr 1
    exact Subsingleton.elim (α := Fin 1) _ _
  exact (stored_prod x x1 x2 b t r o).trans (congrArg (basisOf (rDeqs x) x1 x2) (emb_place b t r o).symm)

/-- The codes' array. -/
theorem codes_val : Cert.ReferenceIdeal.Value.G5 x x1 x2 x3 x4 = rCodes x := by
  funext y
  obtain ⟨r, c, rfl⟩ : ∃ (r : Fin 1536) (c : Fin 1024), y = ix2 r c := ⟨y 0, y 1, eq_ix2 y⟩
  exact codes_apply x r c

/-- The scales' array. -/
theorem scales_val : Cert.ReferenceIdeal.Value.G6 x x1 x2 x3 x4 = rScales x := by
  funext y
  obtain ⟨r, g, rfl⟩ : ∃ (r : Fin 1536) (g : Fin 8), y = ix2 r g := ⟨y 0, y 1, eq_ix2 y⟩
  exact scales_apply x r g

/-- The dequantised rows, loaded whole. -/
theorem rows_eq : (k0_pay14 x x1 x2 x3 x4 : FVec Ideal S1536x1024 .bf16) = k0_pay10 x := by
  unfold k0_pay14
  rw [View.ld_unit_zero (S := S1536x1024) Cert.ReferenceIdeal.Value.hz0 _ x]

/-- The basis products' array. -/
theorem basis_val : Cert.ReferenceIdeal.Value.G7 x x1 x2 x3 x4 = basisOf (rDeqs x) x1 x2 := by
  unfold Cert.ReferenceIdeal.Value.G7
  rw [rows_eq]
  funext y
  refine View.canon_apply_of_pieces (Val := Elt Ideal) (e := .f32) (basisOf (rDeqs x) x1 x2) _ ?_ y (cover0_7 _ _ _ _ y)
  intro p hp z
  simp only [List.mem_cons, List.not_mem_nil, or_false] at hp
  rcases hp with rfl | rfl | rfl | rfl
  · exact prods_piece x x1 x2 3 z
  · exact prods_piece x x1 x2 2 z
  · exact prods_piece x x1 x2 1 z
  · exact prods_piece x x1 x2 0 z

/-- The self products' array. -/
theorem self_val : Cert.ReferenceIdeal.Value.G8 x x1 x2 x3 x4 = selfOf (rDeqs x) x3 x4 := by
  unfold Cert.ReferenceIdeal.Value.G8
  rw [rows_eq]
  funext y
  obtain ⟨r, o, rfl⟩ : ∃ (r : Fin 1536) (o : Fin 640), y = ix2 r o := ⟨y 0, y 1, eq_ix2 y⟩
  exact self_apply x x3 x4 r o

end RefBlock
-- ==== Proof.Agree.lean ====
/-
  THE TWO PROGRAMS AGREE: the precondition decoded, the kernel's four arrays as the reference's functions of the
  arguments, and the claim on the pair of runs.
-/
module

public import proofs.«01_k».proof.Defs
public import proofs.«01_k».proof.Proof.KernelFinal
public import proofs.«01_k».proof.Proof.RefProd
public import proofs.«01_k».proof.Proof.Gen.Pre_finite

@[expose] public section

namespace Agree

open Idealize.ShloMosaic Idealize.ShloMosaic.TcCoe Idealize.SL.Sem Rows

attribute [local instance] Cert.KernelIdeal.Gen.facts Cert.ReferenceIdeal.Gen.facts Cert.Pre_finite.Gen.facts

/-- A comparison that says yes. -/
theorem le_of_cmp {a b : EReal} (h : Ideal.cmp .ole a b = 1#1) : a ≤ b := by
  unfold Ideal.cmp at h
  by_contra hn
  simp [hn] at h

variable (m : (ℓ : Loc Cert.KernelIdeal.nD Cert.KernelIdeal.τ Cert.KernelIdeal.sig) → Buf (Elt Ideal) ℓ)

/-- The precondition bounds every feature. -/
theorem bounded (h : Cert.Pre_KernelIdeal_finite m) (c : Dev Cert.KernelIdeal.nD) : Bounded (KernelArr.X m c) := by
  intro y
  have hy := congrFun (h c) y
  exact le_of_cmp hy

/-- Under it the kernel's arrays are the reference's functions: the codes … -/
theorem codes (h : Cert.Pre_KernelIdeal_finite m) (c : Dev Cert.KernelIdeal.nD) :
    (Cert.KernelIdeal.Gen.dats m 0 c).arrAt 5 Cert.KernelIdeal.cfg0.N = rCodes (KernelArr.X m c) :=
  (KernelArr.final5 m c).trans (codes_eq (bounded m h c))

/-- … the scales … -/
theorem scales (h : Cert.Pre_KernelIdeal_finite m) (c : Dev Cert.KernelIdeal.nD) :
    (Cert.KernelIdeal.Gen.dats m 0 c).arrAt 6 Cert.KernelIdeal.cfg0.N = rScales (KernelArr.X m c) :=
  (KernelArr.final6 m c).trans (scales_eq (bounded m h c))

/-- … the basis products … -/
theorem basis (h : Cert.Pre_KernelIdeal_finite m) (c : Dev Cert.KernelIdeal.nD) :
    (Cert.KernelIdeal.Gen.dats m 0 c).arrAt 7 Cert.KernelIdeal.cfg0.N
      = basisOf (rDeqs (KernelArr.X m c)) (KernelArr.B m c) (KernelArr.S m c) :=
  (KernelArr.final7 m c).trans (by rw [deqs_eq (bounded m h c)])

/-- … and the self products. -/
theorem selfs (h : Cert.Pre_KernelIdeal_finite m) (c : Dev Cert.KernelIdeal.nD) :
    (Cert.KernelIdeal.Gen.dats m 0 c).arrAt 8 Cert.KernelIdeal.cfg0.N
      = selfOf (rDeqs (KernelArr.X m c)) (KernelArr.W m c) (KernelArr.T m c) :=
  (KernelArr.final8 m c).trans (by rw [deqs_eq (bounded m h c)])

/-- The claim on the two runs. -/
theorem algebraic : Cert.algebraic_KernelIdeal_ReferenceIdeal_pre_finite := by
  intro m g m' g' hpre hagree
  refine ⟨fun c => rCodes (KernelArr.X m c), fun c => rScales (KernelArr.X m c),
    fun c => basisOf (rDeqs (KernelArr.X m c)) (KernelArr.B m c) (KernelArr.S m c),
    fun c => selfOf (rDeqs (KernelArr.X m c)) (KernelArr.W m c) (KernelArr.T m c), ?_, ?_⟩
  · refine (θ_run Cert.KernelIdeal.defs _ _).mono (fun r h c => ?_) (Cert.KernelIdeal.Value.run_blocks m g)
    obtain ⟨h0, h1, h2, h3, ha⟩ := h c
    exact ⟨h0.trans (codes m hpre c), h1.trans (scales m hpre c), h2.trans (basis m hpre c),
      h3.trans (selfs m hpre c), ha⟩
  · refine (θ_run Cert.ReferenceIdeal.defs _ _).mono (fun r h c => ?_) (Cert.ReferenceIdeal.Value.run m' g')
    obtain ⟨h0, h1, h2, h3, ha⟩ := h c
    obtain ⟨e0, e1, e2, e3, e4⟩ := hagree c
    refine ⟨h0.trans ?_, h1.trans ?_, h2.trans ?_, h3.trans ?_, ha⟩
    · exact (RefBlock.codes_val _ _ _ _ _).trans (congrArg rCodes e0)
    · exact (RefBlock.scales_val _ _ _ _ _).trans (congrArg rScales e0)
    · refine (RefBlock.basis_val _ _ _ _ _).trans ?_
      rw [e0, e1, e2]
      rfl
    · refine (RefBlock.self_val _ _ _ _ _).trans ?_
      rw [e0, e3, e4]
      rfl

end Agree
-- ==== Proof.Messages.lean ====
/-
  SUMMED MESSAGES. What the aggregation computes at an index: a row of edge coefficients times the basis products of the
  graph, plus the self term. The coefficients arrive in tiles of 8 rows and 128 columns; `place` says where one lies.
-/
module

public import proofs.«01_k».proof.Proof.Rows
public import proofs.«01_k».proof.Proof.RowsLocal

@[expose] public section

namespace Messages

open Idealize.ShloMosaic Rows

/-- The tile of a row of a block. -/
def rt (r : Fin 256) : Fin 32 := ⟨r.val / 8, by omega⟩
/-- The row's place in its tile. -/
def rs (r : Fin 256) : Fin 8 := ⟨r.val % 8, by omega⟩
/-- The basis a column of coefficients belongs to. -/
def kb (k : Fin 1024) : Fin 4 := ⟨k.val / 256, by omega⟩
/-- The source node it belongs to. -/
def ks (k : Fin 1024) : Fin 256 := ⟨k.val % 256, by omega⟩

/-- Where the coefficient of row `r` and column `k` of graph `g` lies in the array of coefficients. -/
def place (g : Fin 6) (r : Fin 256) (k : Fin 1024) : Fin 1572864 :=
  ⟨((32 * g.val + r.val / 8) * 8 + k.val / 128) * 1024 + r.val % 8 * 128 + k.val % 128, by omega⟩

variable (a : (⟨1, ![1572864]⟩ : Shape).Idx → EReal) (h : (⟨4, ![6, 4, 256, 640]⟩ : Shape).Idx → EReal)
  (s : (⟨2, ![1536, 640]⟩ : Shape).Idx → EReal)

/-- The coefficients times the basis products, for row `r` of graph `g` and column `o`. -/
noncomputable def messages (g : Fin 6) (r : Fin 256) (o : Fin 640) : EReal :=
  ∑ k : Fin 1024, a (ix1 (place g r k)) * h (ix4 g (kb k) (ks k) o)

/-- The graph of a node. -/
def graph (i : Fin 1536) : Fin 6 := ⟨i.val / 256, by omega⟩
/-- The node's place in its graph. -/
def node (i : Fin 1536) : Fin 256 := ⟨i.val % 256, by omega⟩

/-- The result: messages plus self term. -/
noncomputable def summed (y : (⟨2, ![1536, 640]⟩ : Shape).Idx) : EReal :=
  messages a h (graph (y 0)) (node (y 0)) (y 1) + s y

theorem graph_row (g : Fin 6) (r : Fin 256) : graph (row g r) = g := Fin.ext (by
  show (256 * g.val + r.val) / 256 = g.val
  omega)

theorem node_row (g : Fin 6) (r : Fin 256) : node (row g r) = r := Fin.ext (by
  show (256 * g.val + r.val) % 256 = r.val
  omega)

theorem row_graph_node (i : Fin 1536) : row (graph i) (node i) = i := Fin.ext (by
  show 256 * (i.val / 256) + i.val % 256 = i.val
  omega)

theorem summed_row (g : Fin 6) (r : Fin 256) (o : Fin 640) :
    summed a h s (ix2 (row g r) o) = messages a h g r o + s (ix2 (row g r) o) := by
  show messages a h (graph (row g r)) (node (row g r)) o + s (ix2 (row g r) o) = _
  rw [graph_row, node_row]

/-- Every entry is a real. -/
def Real {S : Shape} (x : S.Idx → EReal) : Prop := ∀ i, x i ≠ ⊤ ∧ x i ≠ ⊥

/-- A real minus itself is zero. -/
theorem sub_self_of_real {x : EReal} (hx : x ≠ ⊤ ∧ x ≠ ⊥) : x - x = 0 := EReal.sub_self hx.1 hx.2

end Messages
-- ==== Proof.AggBlock.lean ====
/-
  A BLOCK OF THE AGGREGATION. The kernel writes each factor as a sum of three bfloat16 parts and adds six products of parts to
  the self term. Over the reals the first part of a real is the real itself and the other two are zero, so five of the six
  products vanish and the sixth is the product.
-/
module

public import proofs.«01_k».proof.Proof.Messages
public import proofs.«01_k».proof.Proof.Gen.AggregateIdeal.Frame
public import Idealize.ShloMosaic.Lib.MatmulPlain
public import Idealize.ShloMosaic.Lib.Pipeline.ValueKit.Tiles
public import Idealize.ShloMosaic.Lib.Pipeline.Value
public import Idealize.ShloMosaic.Lib.ValueIdx
public import Idealize.ShloMosaic.Lib.Pointwise.ElementwiseCore
public import Idealize.ShloMosaic.Lib.Pointwise.Reshape
public import Idealize.ShloMosaic.Lib.Pointwise.Index

@[expose] public section

namespace AggBlock

open Idealize.ShloMosaic Cert.AggregateIdeal Cert.AggregateIdeal.Gen Rows Messages

attribute [local instance] Cert.AggregateIdeal.Gen.facts

/-- The two spellings of a matrix index. -/
theorem ix2_same {m n : ℕ} (a : Fin m) (b : Fin n) : ValueIdx.ix2 a b = ix2 a b := by
  funext i
  match i with
  | ⟨0, _⟩ => rfl
  | ⟨1, _⟩ => rfl

/-- The printed product from a zero accumulator, at an index. -/
theorem dot_apply (A : FVec Ideal S256x1024 .bf16) (B : FVec Ideal S1024x640 .bf16) (r : Fin 256) (o : Fin 640) :
    matmul dot_S256x1024_S1024x640_S256x640_1_0_0_1_n_n none A B (constant S256x640 .f32 0x00000000#32) (ix2 r o)
      = ∑ k : Fin 1024, A (ix2 r k) * B (ix2 k o) := by
  refine (Ideal.matmul_plain_apply none A B (constant S256x640 .f32 0x00000000#32) r o).trans ?_
  rw [ValueIdx.constant_apply, Ideal.ofBits_zero_f32, zero_add]
  exact Finset.sum_congr rfl fun k _ => by rw [ix2_same, ix2_same]

variable {S : Shape}

/-- The first part of a factor. -/
noncomputable def hi (v : FVec Ideal S .f32) : FVec Ideal S .bf16 := truncf .bf16 v bitsLt_bf16_f32
/-- What the first part leaves. -/
noncomputable def rest (v : FVec Ideal S .f32) : FVec Ideal S .f32 := subf v (extf .f32 (hi v) bitsLt_bf16_f32)
/-- The second part. -/
noncomputable def mid (v : FVec Ideal S .f32) : FVec Ideal S .bf16 := hi (rest v)
/-- The third part. -/
noncomputable def lo (v : FVec Ideal S .f32) : FVec Ideal S .bf16 := hi (rest (rest v))

theorem hi_apply (v : FVec Ideal S .f32) (i : S.Idx) : hi v i = v i := rfl

theorem rest_apply {v : FVec Ideal S .f32} (h : Real v) (i : S.Idx) : rest v i = 0 := sub_self_of_real (h i)

theorem rest_real {v : FVec Ideal S .f32} (h : Real v) : Real (rest v) := fun i => by
  rw [rest_apply h i]
  exact ⟨EReal.zero_ne_top, EReal.zero_ne_bot⟩

theorem mid_apply {v : FVec Ideal S .f32} (h : Real v) (i : S.Idx) : mid v i = 0 := rest_apply h i

theorem lo_apply {v : FVec Ideal S .f32} (h : Real v) (i : S.Idx) : lo v i = 0 := rest_apply (rest_real h) i

/-- The printed product. -/
noncomputable def dot (A : FVec Ideal S256x1024 .bf16) (B : FVec Ideal S1024x640 .bf16) : FVec Ideal S256x640 .f32 :=
  matmul dot_S256x1024_S1024x640_S256x640_1_0_0_1_n_n none A B (constant S256x640 .f32 0x00000000#32)

/-- A product with a left factor of zeros … -/
theorem dot_zero_left {A : FVec Ideal S256x1024 .bf16} (hA : ∀ i, A i = 0) (B : FVec Ideal S1024x640 .bf16) (r : Fin 256)
    (o : Fin 640) : dot A B (ix2 r o) = 0 :=
  (dot_apply A B r o).trans (Finset.sum_eq_zero fun k _ => by rw [hA, zero_mul])

/-- … or a right factor of zeros is zero. -/
theorem dot_zero_right (A : FVec Ideal S256x1024 .bf16) {B : FVec Ideal S1024x640 .bf16} (hB : ∀ i, B i = 0) (r : Fin 256)
    (o : Fin 640) : dot A B (ix2 r o) = 0 :=
  (dot_apply A B r o).trans (Finset.sum_eq_zero fun k _ => by rw [hB, mul_zero])

/-- The basis products of a block as a matrix: bases and source nodes together down the rows. -/
noncomputable def stack (x1 : Vec Ideal S1x4x256x640 .f32) : FVec Ideal S1024x640 .f32 :=
  shapeCast S1024x640 (shapeCast S4x256x640 x1 shapeCasts_S1x4x256x640_S4x256x640) shapeCasts_S4x256x640_S1024x640

theorem stack_apply (x1 : Vec Ideal S1x4x256x640 .f32) (k : Fin 1024) (o : Fin 640) :
    stack x1 (ix2 k o) = x1 (ix4 0 (kb k) (ks k) o) := by
  unfold stack
  rw [shapeCast_apply _ _ (ix2 k o) (ix3 (kb k) (ks k) o) (by
    rw [rowMajor_val2 _ 640 rfl, rowMajor_val3 _ 163840 640 rfl rfl]
    show k.val / 256 * 163840 + k.val % 256 * 640 + o.val = k.val * 640 + o.val
    omega)]
  refine shapeCast_apply _ _ (ix3 (kb k) (ks k) o) (ix4 0 (kb k) (ks k) o) ?_
  rw [rowMajor_val3 _ 163840 640 rfl rfl, rowMajor_val4 _ 655360 163840 640 rfl rfl rfl]
  show 0 * 655360 + k.val / 256 * 163840 + k.val % 256 * 640 + o.val = k.val / 256 * 163840 + k.val % 256 * 640 + o.val
  omega

/-- The stored value in terms of the parts. -/
theorem pay_eq (A : FVec Ideal S256x1024 .f32) (x1 : Vec Ideal S1x4x256x640 .f32) (x2 : Vec Ideal S256x640 .f32) :
    k0_pay1 A (hi A) (extf .f32 (hi A) bitsLt_bf16_f32) x1 x2
      = hi (addf (addf (addf (addf (addf (addf x2 (dot (hi A) (lo (stack x1)))) (dot (lo A) (hi (stack x1))))
          (dot (mid A) (mid (stack x1)))) (dot (hi A) (mid (stack x1)))) (dot (mid A) (hi (stack x1))))
          (dot (hi A) (hi (stack x1)))) := rfl

/-- The stored value of real factors: the self term plus the product. -/
theorem pay_apply {A : FVec Ideal S256x1024 .f32} {x1 : Vec Ideal S1x4x256x640 .f32} (x2 : Vec Ideal S256x640 .f32)
    (hA : Real A) (hB : Real (stack x1)) (r : Fin 256) (o : Fin 640) :
    k0_pay1 A (hi A) (extf .f32 (hi A) bitsLt_bf16_f32) x1 x2 (ix2 r o)
      = (∑ k : Fin 1024, A (ix2 r k) * x1 (ix4 0 (kb k) (ks k) o)) + x2 (ix2 r o) := by
  rw [pay_eq, hi_apply, ValueIdx.addf_apply, ValueIdx.addf_apply, ValueIdx.addf_apply, ValueIdx.addf_apply,
    ValueIdx.addf_apply, ValueIdx.addf_apply, dot_zero_right _ (lo_apply hB), dot_zero_left (lo_apply hA),
    dot_zero_left (mid_apply hA), dot_zero_right _ (mid_apply hB), dot_zero_left (mid_apply hA), add_zero, add_zero,
    add_zero, add_zero, add_zero, add_comm]
  refine congrArg (· + x2 (ix2 r o)) ((dot_apply _ _ r o).trans (Finset.sum_congr rfl fun k _ => ?_))
  rw [hi_apply, hi_apply, stack_apply]

variable (x0 : Vec Ideal S32x8x8x128 .f32) (x1 : Vec Ideal S1x4x256x640 .f32) (x2 : Vec Ideal S256x640 .f32)

/-- Column tile `n` of the coefficients. -/
def rect (n : Fin 8) : Rect S32x8x8x128 := Rect.unit (s := S32x8x8x128) ![0, n.val, 0, 0] S32x1x8x128.size (by
  intro a
  match a with
  | ⟨0, _⟩ => show 0 + 32 ≤ 32; omega
  | ⟨1, _⟩ => show n.val + 1 ≤ 8; omega
  | ⟨2, _⟩ => show 0 + 8 ≤ 8; omega
  | ⟨3, _⟩ => show 0 + 128 ≤ 128; omega)

/-- That tile, loaded. -/
def tile (n : Fin 8) : Vec Ideal S32x1x8x128 .f32 := View.ld x0 (rect n)

/-- Its entries as 256 rows of 128. -/
noncomputable def cols (n : Fin 8) : FVec Ideal S256x128 .f32 :=
  shapeCast S256x128 (shapeCast S32x8x128 (tile x0 n) shapeCasts_S32x1x8x128_S32x8x128)
    shapeCasts_S32x8x128_S256x128

theorem tile_apply (n : Fin 8) (t : Fin 32) (q : Fin 8) (l : Fin 128) : tile x0 n (ix4 t 0 q l) = x0 (ix4 t n q l) := by
  unfold tile
  refine View.ld_unit_apply_of x0 _ _ _ _ _ ?_
  intro a
  match a with
  | ⟨0, _⟩ => show t.val = 0 + t.val; omega
  | ⟨1, _⟩ => rfl
  | ⟨2, _⟩ => show q.val = 0 + q.val; omega
  | ⟨3, _⟩ => show l.val = 0 + l.val; omega

theorem cols_apply (n : Fin 8) (r : Fin 256) (l : Fin 128) : cols x0 n (ix2 r l) = x0 (ix4 (rt r) n (rs r) l) := by
  unfold cols
  rw [shapeCast_apply _ _ (ix2 r l) (ix3 (rt r) (rs r) l) (by
    rw [rowMajor_val2 _ 128 rfl, rowMajor_val3 _ 1024 128 rfl rfl]
    show r.val / 8 * 1024 + r.val % 8 * 128 + l.val = r.val * 128 + l.val
    omega)]
  rw [shapeCast_apply _ _ (ix3 (rt r) (rs r) l) (ix4 (rt r) 0 (rs r) l) (by
    rw [rowMajor_val3 _ 1024 128 rfl rfl, rowMajor_val4 _ 1024 1024 128 rfl rfl rfl]
    show r.val / 8 * 1024 + 0 * 1024 + r.val % 8 * 128 + l.val = r.val / 8 * 1024 + r.val % 8 * 128 + l.val
    omega)]
  exact tile_apply x0 n (rt r) (rs r) l

/-- The block's coefficients as the body forms them: the column tiles side by side. -/
noncomputable def mat : FVec Ideal S256x1024 .f32 :=
  concatenate S256x1024 1 [⟨S256x128, cols x0 0⟩, ⟨S256x128, cols x0 1⟩, ⟨S256x128, cols x0 2⟩, ⟨S256x128, cols x0 3⟩,
    ⟨S256x128, cols x0 4⟩, ⟨S256x128, cols x0 5⟩, ⟨S256x128, cols x0 6⟩, ⟨S256x128, cols x0 7⟩]
    concatenates_S256x128_S256x128_S256x128_S256x128_S256x128_S256x128_S256x128_S256x128_S256x1024_d1

theorem mat_apply (r : Fin 256) (k : Fin 1024) : mat x0 (ix2 r k) = x0 (ix4 (rt r) (cg k) (rs r) (ck k)) := by
  have e := concatenate_ofFn_apply (t := S256x1024) (s₁ := S256x128) 1 (fun n : Fin 8 => cols x0 n)
    concatenates_S256x128_S256x128_S256x128_S256x128_S256x128_S256x128_S256x128_S256x128_S256x1024_d1 rfl 128 rfl
    (ix2 r k) (cg k) rfl (ix2 r (ck k)) rfl (by
      intro b hb
      match b with
      | ⟨0, _⟩ => rfl
      | ⟨1, _⟩ => exact absurd rfl hb)
  exact e.trans (cols_apply x0 (cg k) r (ck k))

/-- The body's store over those coefficients. -/
theorem out3_eq : out0_3 x0 x1 x2 = View.canon [⟨r0_9, k0_pay1 (mat x0) (hi (mat x0))
    (extf .f32 (hi (mat x0)) bitsLt_bf16_f32) (View.ld x1 r0_8) (View.ld x2 r0_9)⟩] := rfl

variable {x0 x1}

theorem mat_real (h : Real x0) : Real (mat x0) := fun i => by
  obtain ⟨r, k, rfl⟩ : ∃ (r : Fin 256) (k : Fin 1024), i = ix2 r k := ⟨i 0, i 1, eq_ix2 i⟩
  rw [mat_apply]
  exact h _

theorem stack_real (h : Real x1) : Real (stack x1) := fun i => by
  obtain ⟨k, o, rfl⟩ : ∃ (k : Fin 1024) (o : Fin 640), i = ix2 k o := ⟨i 0, i 1, eq_ix2 i⟩
  rw [stack_apply]
  exact h _

/-- What the body leaves of a block of real coefficients and basis products. -/
theorem out3_apply (h0 : Real x0) (h1 : Real x1) (r : Fin 256) (o : Fin 640) :
    out0_3 x0 x1 x2 (ix2 r o)
      = (∑ k : Fin 1024, x0 (ix4 (rt r) (cg k) (rs r) (ck k)) * x1 (ix4 0 (kb k) (ks k) o)) + x2 (ix2 r o) := by
  have hz : (![0, 0] : Fin S256x640.rank → Nat) = fun _ => 0 := by
    funext a
    match a with
    | ⟨0, _⟩ => rfl
    | ⟨1, _⟩ => rfl
  have hz4 : (![0, 0, 0, 0] : Fin S1x4x256x640.rank → Nat) = fun _ => 0 := by
    funext a
    match a with
    | ⟨0, _⟩ => rfl
    | ⟨1, _⟩ => rfl
    | ⟨2, _⟩ => rfl
    | ⟨3, _⟩ => rfl
  rw [out3_eq, View.canon_unit_zero hz, View.ld_unit_zero (S := S1x4x256x640) hz4, View.ld_unit_zero (S := S256x640) hz,
    pay_apply x2 (mat_real h0) (stack_real h1)]
  simp only [mat_apply]

end AggBlock
-- ==== Proof.AggArr.lean ====
/-
  WHAT THE AGGREGATION'S ARRAY HOLDS at the end: each of the six grid points writes the rows of one graph, and the six
  blocks cover the array.
-/
module

public import proofs.«01_k».proof.Proof.AggBlock
public import proofs.«01_k».proof.Proof.Gen.AggregateIdeal.Value
public import Idealize.ShloMosaic.Lib.Pipeline.Value

@[expose] public section

namespace AggArr

open Idealize.ShloMosaic Idealize.ShloMosaic.TcCoe Cert.AggregateIdeal Cert.AggregateIdeal.Gen Rows Messages
open Idealize.ShloMosaic.Pipeline (Dat)

attribute [local instance] Cert.AggregateIdeal.Gen.facts

variable (m : (ℓ : Loc nD τ sig) → Buf (Elt Ideal) ℓ) (c : Dev nD)

/-- The edge coefficients. -/
def A : Vec Ideal S1572864 .f32 := m ((c : Thread nD τ).loc main_arg0)
/-- The basis products. -/
def H : Vec Ideal S6x4x256x640 .f32 := m ((c : Thread nD τ).loc main_arg1)
/-- The self term. -/
def S : Vec Ideal S1536x640 .f32 := m ((c : Thread nD τ).loc main_arg2)

/-- The grid points, counted. -/
def pt (t : Fin cfg0.N) : Fin 6 := ⟨t.val, by have h := t.isLt; have : cfg0.N = 6 := N_0; omega⟩

/-- The coefficients as the region finds them: in tiles. -/
theorem V_tiles : (V m c main_v0 : Vec Ideal S192x8x8x128 .f32) = shapeCast S192x8x8x128 (A m c) rfl := by
  entry_read
  rfl

/-- Tile row `q` of graph `g`. -/
def tileRow (g : Fin 6) (q : Fin 32) : Fin 192 := ⟨32 * g.val + q.val, by omega⟩

/-- A coefficient in its tile. -/
theorem tiles_apply (g : Fin 6) (r : Fin 256) (k : Fin 1024) :
    shapeCast S192x8x8x128 (A m c) rfl (ix4 (tileRow g (rt r)) (cg k) (rs r) (ck k)) = A m c (ix1 (place g r k)) := by
  refine shapeCast_apply _ _ _ (ix1 (place g r k)) ?_
  rw [rowMajor_val1, rowMajor_val4 _ 8192 1024 128 rfl rfl rfl]
  show ((32 * g.val + r.val / 8) * 8 + k.val / 128) * 1024 + r.val % 8 * 128 + k.val % 128
    = (32 * g.val + r.val / 8) * 8192 + k.val / 128 * 1024 + r.val % 8 * 128 + k.val % 128
  omega

/-- Where an entry of a block of coefficients lies. -/
theorem emb0 (t : Fin cfg0.N) (q : Fin 32) (n : Fin 8) (p : Fin 8) (l : Fin 128) :
    ((win0_0.rect t).emb (ix4 q n p l) : S192x8x8x128.Idx) = ix4 (tileRow (pt t) q) n p l := by
  have e : win0_0.index t 0 = t.val ∧ win0_0.index t 1 = 0 ∧ win0_0.index t 2 = 0 ∧ win0_0.index t 3 = 0 := by
    rcases fin_N0 t with rfl | rfl | rfl | rfl | rfl | rfl <;> decide +kernel
  funext a
  apply Fin.ext
  match a with
  | ⟨0, _⟩ =>
    show win0_0.index t 0 * 32 + 1 * q.val = 32 * t.val + q.val
    rw [e.1]; omega
  | ⟨1, _⟩ =>
    show win0_0.index t 1 * 8 + 1 * n.val = n.val
    rw [e.2.1]; omega
  | ⟨2, _⟩ =>
    show win0_0.index t 2 * 8 + 1 * p.val = p.val
    rw [e.2.2.1]; omega
  | ⟨3, _⟩ =>
    show win0_0.index t 3 * 128 + 1 * l.val = l.val
    rw [e.2.2.2]; omega

/-- Point `t` reads the tiles of graph `t` … -/
theorem x0_tiles (t : Fin cfg0.N) (q : Fin 32) (n : Fin 8) (p : Fin 8) (l : Fin 128) :
    (iblk m c 0 t : Vec Ideal S32x8x8x128 .f32) (ix4 q n p l)
      = shapeCast S192x8x8x128 (A m c) rfl (ix4 (tileRow (pt t) q) n p l) := by
  show (V m c main_v0 : Vec Ideal S192x8x8x128 .f32) ((win0_0.rect t).emb (ix4 q n p l)) = _
  rw [V_tiles]
  exact congrArg (shapeCast S192x8x8x128 (A m c) rfl) (emb0 t q n p l)

/-- … so its coefficients are those of the graph … -/
theorem x0_apply (t : Fin cfg0.N) (r : Fin 256) (k : Fin 1024) :
    (iblk m c 0 t : Vec Ideal S32x8x8x128 .f32) (ix4 (rt r) (cg k) (rs r) (ck k)) = A m c (ix1 (place (pt t) r k)) :=
  (x0_tiles m c t _ _ _ _).trans (tiles_apply m c (pt t) r k)

/-- … the basis products of graph `t` … -/
theorem x1_apply (t : Fin cfg0.N) (b : Fin 4) (n : Fin 256) (o : Fin 640) :
    (iblk m c 1 t : Vec Ideal S1x4x256x640 .f32) (ix4 0 b n o) = H m c (ix4 (pt t) b n o) := by
  show (H m c) ((win0_1.rect t).emb (ix4 (n0 := 1) 0 b n o)) = _
  refine congrArg (H m c) (funext fun a => Fin.ext ?_)
  have e : win0_1.index t 0 = t.val ∧ win0_1.index t 1 = 0 ∧ win0_1.index t 2 = 0 ∧ win0_1.index t 3 = 0 := by
    rcases fin_N0 t with rfl | rfl | rfl | rfl | rfl | rfl <;> decide +kernel
  match a with
  | ⟨0, _⟩ =>
    show win0_1.index t 0 * 1 + 1 * 0 = t.val
    rw [e.1]; omega
  | ⟨1, _⟩ =>
    show win0_1.index t 1 * 4 + 1 * b.val = b.val
    rw [e.2.1]; omega
  | ⟨2, _⟩ =>
    show win0_1.index t 2 * 256 + 1 * n.val = n.val
    rw [e.2.2.1]; omega
  | ⟨3, _⟩ =>
    show win0_1.index t 3 * 640 + 1 * o.val = o.val
    rw [e.2.2.2]; omega

/-- … and its self term. -/
theorem x2_apply (t : Fin cfg0.N) (r : Fin 256) (o : Fin 640) :
    (iblk m c 2 t : Vec Ideal S256x640 .f32) (ix2 r o) = S m c (ix2 (row (pt t) r) o) := by
  show (S m c) ((win0_2.rect t).emb (ix2 r o)) = _
  refine congrArg (S m c) (funext fun a => Fin.ext ?_)
  have e : win0_2.index t 0 = t.val ∧ win0_2.index t 1 = 0 := by
    rcases fin_N0 t with rfl | rfl | rfl | rfl | rfl | rfl <;> decide +kernel
  match a with
  | ⟨0, _⟩ =>
    show win0_2.index t 0 * 256 + 1 * r.val = 256 * t.val + r.val
    rw [e.1]; omega
  | ⟨1, _⟩ =>
    show win0_2.index t 1 * 640 + 1 * o.val = o.val
    rw [e.2]; omega

/-- Blocks of real arrays are real: the coefficients' … -/
theorem x0_real (h : Real (A m c)) (t : Fin cfg0.N) : Real (iblk m c 0 t : Vec Ideal S32x8x8x128 .f32) := fun i => by
  obtain ⟨q, n, p, l, rfl⟩ : ∃ (q : Fin 32) (n : Fin 8) (p : Fin 8) (l : Fin 128), i = ix4 q n p l :=
    ⟨i 0, i 1, i 2, i 3, eq_ix4 i⟩
  rw [x0_tiles]
  exact h _

/-- … and the basis products'. -/
theorem x1_real (h : Real (H m c)) (t : Fin cfg0.N) : Real (iblk m c 1 t : Vec Ideal S1x4x256x640 .f32) := fun i => by
  obtain ⟨b, n, o, rfl⟩ : ∃ (b : Fin 4) (n : Fin 256) (o : Fin 640), i = ix4 (n0 := 1) 0 b n o := by
    refine ⟨i 1, i 2, i 3, (eq_ix4 i).trans ?_⟩
    congr 1
    exact Subsingleton.elim (α := Fin 1) _ _
  rw [x1_apply]
  exact h _

/-- A block `Y` whose entries are those of `G` under point `t`'s block is what reading `G` there gives. -/
theorem read3 (t : Fin cfg0.N) (Y : Vec Ideal S256x640 .bf16) (G : Vec Ideal S1536x640 .bf16)
    (h : ∀ x : S256x640.Idx, Y x = G ((win0_3.rect t).emb x)) :
    (cfg0.win 3).cut (grid0.coords t) Y = (win0_3.blk t).view.read (Elt Ideal) G := funext h

/-- Where an entry of a block lies in the array. -/
theorem emb3 (t : Fin cfg0.N) (r : Fin 256) (o : Fin 640) :
    ((win0_3.rect t).emb (ix2 r o) : S1536x640.Idx) = ix2 (row (pt t) r) o := by
  have e : win0_3.index t 0 = t.val ∧ win0_3.index t 1 = 0 := by
    rcases fin_N0 t with rfl | rfl | rfl | rfl | rfl | rfl <;> decide +kernel
  funext a
  apply Fin.ext
  match a with
  | ⟨0, _⟩ =>
    show win0_3.index t 0 * 256 + 1 * r.val = 256 * t.val + r.val
    rw [e.1]; omega
  | ⟨1, _⟩ =>
    show win0_3.index t 1 * 640 + 1 * o.val = o.val
    rw [e.2]; omega

/-- An entry of what a point's body leaves. -/
theorem block_apply (hA : Real (A m c)) (hH : Real (H m c)) (t : Fin cfg0.N) (r : Fin 256) (o : Fin 640) :
    out0_3 (iblk m c 0 t : Vec Ideal S32x8x8x128 .f32) (iblk m c 1 t : Vec Ideal S1x4x256x640 .f32)
        (iblk m c 2 t : Vec Ideal S256x640 .f32) (ix2 r o)
      = summed (A m c) (H m c) (S m c) (ix2 (row (pt t) r) o) := by
  rw [summed_row]
  refine (AggBlock.out3_apply _ (x0_real m c hA t) (x1_real m c hH t) r o).trans ?_
  rw [x2_apply]
  refine congrArg (· + S m c (ix2 (row (pt t) r) o)) (Finset.sum_congr rfl fun k _ => ?_)
  rw [x0_apply, x1_apply]

/-- What a point writes back is its block of the sums. -/
theorem flushed3 (hA : Real (A m c)) (hH : Real (H m c)) (t : Fin cfg0.N) :
    (dats m 0 c).flushed 3 t = (win0_3.blk t).view.read (Elt Ideal) (summed (A m c) (H m c) (S m c)) := by
  rw [Cert.AggregateIdeal.Value.flushed3]
  refine read3 t _ _ fun x => ?_
  obtain ⟨r, o, rfl⟩ : ∃ (r : Fin 256) (o : Fin 640), x = ix2 r o := ⟨x 0, x 1, eq_ix2 x⟩
  exact (block_apply m c hA hH t r o).trans (congrArg (summed (A m c) (H m c) (S m c)) (emb3 t r o).symm)

/-- The blocks cover the array. -/
theorem cover3 (i : S1536x640.Idx) : ∃ t : Fin cfg0.N, (cfg0.win 3).flush t = true ∧ i ∈ ((cfg0.win 3).blk t).view.set := by
  obtain ⟨r, o, rfl⟩ : ∃ (r : Fin 1536) (o : Fin 640), i = ix2 r o := ⟨i 0, i 1, eq_ix2 i⟩
  obtain ⟨t, ht⟩ : ∃ t : Fin cfg0.N, graph r = pt t :=
    ⟨⟨(graph r).val, by have hN : cfg0.N = 6 := N_0; have := (graph r).isLt; omega⟩, rfl⟩
  refine ⟨t, flush0_3 _, ?_⟩
  rw [← row_graph_node r, ht, ← emb3 t (node r) o]
  exact ((cfg0.win 3).blk t).view.emb_mem_set _

/-- The array at the end. -/
theorem final3 (hA : Real (A m c)) (hH : Real (H m c)) :
    (dats m 0 c).arrAt 3 cfg0.N = summed (A m c) (H m c) (S m c) :=
  (dats m 0 c).arrAt_eq_of_cover 3 (summed (A m c) (H m c) (S m c)) (fun t _ => flushed3 m c hA hH t) cover3

end AggArr
-- ==== Proof.AggRef.lean ====
/-
  THE REFERENCE'S AGGREGATION, read at an index.
-/
module

public import proofs.«01_k».proof.Proof.Messages
public import proofs.«01_k».proof.Proof.Gen.AggregateReferenceIdeal.Run
public import Idealize.ShloMosaic.Lib.StackMember
public import Idealize.ShloMosaic.Lib.Pipeline.Value
public import Idealize.ShloMosaic.Lib.ValueIdx
public import Idealize.ShloMosaic.Lib.Pointwise.ElementwiseCore
public import Idealize.ShloMosaic.Lib.Pointwise.Reshape
public import Idealize.ShloMosaic.Lib.Pointwise.Index

@[expose] public section

namespace AggRef

open Idealize.ShloMosaic Cert.AggregateReferenceIdeal Cert.AggregateReferenceIdeal.Gen Rows Messages

attribute [local instance] Cert.AggregateReferenceIdeal.Gen.facts

/-- The two spellings of an index of rank three. -/
theorem ix3_same {l m n : ℕ} (a : Fin l) (b : Fin m) (c : Fin n) : ValueIdx.ix3 a b c = ix3 a b c := by
  funext i
  match i with
  | ⟨0, _⟩ => rfl
  | ⟨1, _⟩ => rfl
  | ⟨2, _⟩ => rfl

variable (a : FVec Ideal S1572864 .f32) (h : FVec Ideal S6x4x256x640 .f32) (s : FVec Ideal S1536x640 .f32)

/-- The coefficients out of their tiles: graph, row, column. -/
noncomputable def coef : FVec Ideal S6x256x1024 .f32 :=
  shapeCast S6x256x1024 (transpose S6x32x8x8x128 [0, 1, 3, 2, 4] (shapeCast S6x32x8x8x128 a shapeCasts_S1572864_S6x32x8x8x128)
    transposes_S6x32x8x8x128_S6x32x8x8x128_0_1_3_2_4) shapeCasts_S6x32x8x8x128_S6x256x1024

theorem coef_apply (g : Fin 6) (r : Fin 256) (k : Fin 1024) : coef a (ix3 g r k) = a (ix1 (place g r k)) := by
  unfold coef
  rw [shapeCast_apply _ _ (ix3 g r k) (ix5 g (rt r) (rs r) (cg k) (ck k)) (by
    rw [rowMajor_val3 _ 262144 1024 rfl rfl, rowMajor_val5 _ 262144 8192 1024 128 rfl rfl rfl rfl]
    show g.val * 262144 + r.val / 8 * 8192 + r.val % 8 * 1024 + k.val / 128 * 128 + k.val % 128
      = g.val * 262144 + r.val * 1024 + k.val
    omega)]
  rw [transpose_apply _ _ _ (ix5 g (rt r) (rs r) (cg k) (ck k)) (ix5 g (rt r) (cg k) (rs r) (ck k)) (by
    intro b
    match b with
    | ⟨0, _⟩ => rfl
    | ⟨1, _⟩ => rfl
    | ⟨2, _⟩ => rfl
    | ⟨3, _⟩ => rfl
    | ⟨4, _⟩ => rfl)]
  refine shapeCast_apply _ _ _ (ix1 (place g r k)) ?_
  rw [rowMajor_val1, rowMajor_val5 _ 262144 8192 1024 128 rfl rfl rfl rfl]
  show ((32 * g.val + r.val / 8) * 8 + k.val / 128) * 1024 + r.val % 8 * 128 + k.val % 128
    = g.val * 262144 + r.val / 8 * 8192 + k.val / 128 * 1024 + r.val % 8 * 128 + k.val % 128
  omega

/-- The basis products with bases and source nodes together. -/
noncomputable def stack : FVec Ideal S6x1024x640 .f32 := shapeCast S6x1024x640 h shapeCasts_S6x4x256x640_S6x1024x640

theorem stack_apply (g : Fin 6) (k : Fin 1024) (o : Fin 640) : stack h (ix3 g k o) = h (ix4 g (kb k) (ks k) o) := by
  unfold stack
  refine shapeCast_apply _ _ (ix3 g k o) (ix4 g (kb k) (ks k) o) ?_
  rw [rowMajor_val3 _ 655360 640 rfl rfl, rowMajor_val4 _ 655360 163840 640 rfl rfl rfl]
  show g.val * 655360 + k.val / 256 * 163840 + k.val % 256 * 640 + o.val = g.val * 655360 + k.val * 640 + o.val
  omega

/-- The product, graph by graph. -/
noncomputable def prod : FVec Ideal S6x256x640 .f32 :=
  Host.dotGeneral dot_S6x256x1024_S6x1024x640_S6x256x640_2_1_1_2_0_0 (some .fp32) (coef a) (stack h)

theorem prod_apply (g : Fin 6) (r : Fin 256) (o : Fin 640) : prod a h (ix3 g r o) = messages a h g r o := by
  have e := StackMember.dotGeneral_stack_apply (G := 6) (m := 256) (n := 640) (k := 1024)
    dot_S6x256x1024_S6x1024x640_S6x256x640_2_1_1_2_0_0_wf (some .fp32) (coef a) (stack h) g r o
  simp only [ix3_same, coef_apply, stack_apply] at e
  exact e

/-- The reference's result. -/
noncomputable def result : FVec Ideal S1536x640 .bf16 :=
  truncf .bf16 (addf (shapeCast S1536x640 (prod a h) shapeCasts_S6x256x640_S1536x640) s) bitsLt_bf16_f32

theorem rows_apply (g : Fin 6) (r : Fin 256) (o : Fin 640) :
    shapeCast S1536x640 (prod a h) shapeCasts_S6x256x640_S1536x640 (ix2 (row g r) o) = messages a h g r o := by
  refine (shapeCast_apply _ _ (ix2 (row g r) o) (ix3 g r o) ?_).trans (prod_apply a h g r o)
  rw [rowMajor_val2 _ 640 rfl, rowMajor_val3 _ 163840 640 rfl rfl]
  show g.val * 163840 + r.val * 640 + o.val = (256 * g.val + r.val) * 640 + o.val
  omega

/-- The result is the sums. -/
theorem result_eq : result a h s = summed a h s := by
  funext y
  obtain ⟨i, o, rfl⟩ : ∃ (i : Fin 1536) (o : Fin 640), y = ix2 i o := ⟨y 0, y 1, eq_ix2 y⟩
  rw [← row_graph_node i, summed_row]
  exact congrArg (· + s (ix2 (row (graph i) (node i)) o)) (rows_apply a h (graph i) (node i) o)

end AggRef
-- ==== Proof.AggAgree.lean ====
/-
  THE AGGREGATION AND ITS REFERENCE AGREE: the precondition decoded and the claim on the pair of runs.
-/
module

public import proofs.«01_k».proof.Defs
public import proofs.«01_k».proof.Proof.AggArr
public import proofs.«01_k».proof.Proof.AggRef
public import proofs.«01_k».proof.Proof.Gen.Pre_finite_factors

@[expose] public section

namespace AggAgree

open Idealize.ShloMosaic Idealize.ShloMosaic.TcCoe Idealize.SL.Sem Rows Messages

attribute [local instance] Cert.AggregateIdeal.Gen.facts Cert.AggregateReferenceIdeal.Gen.facts
  Cert.Pre_finite_factors.Gen.facts

/-- A comparison that says yes. -/
theorem lt_of_cmp {a b : EReal} (h : Ideal.cmp .olt a b = 1#1) : a < b := by
  unfold Ideal.cmp at h
  by_contra hn
  simp [hn] at h

/-- An extended real whose magnitude is below infinity is a real. -/
theorem real_of_abs {x : EReal} (h : FloatOps.absf (F := Ideal) (φ := .f32) x < FloatOps.ofBits (F := Ideal) .f32 0x7F800000#32) :
    x ≠ ⊤ ∧ x ≠ ⊥ := by
  have htop : FloatOps.ofBits (F := Ideal) .f32 0x7F800000#32 = (⊤ : EReal) := by
    show Ideal.ofBits .f32 0x7F800000#32 = ⊤
    simp [Ideal.ofBits, Ideal.ieee]
  rw [htop] at h
  constructor
  · rintro rfl
    exact lt_irrefl _ (lt_of_le_of_lt (le_max_left (⊤ : EReal) (-⊤)) h)
  · rintro rfl
    exact lt_irrefl _ (lt_of_le_of_lt (le_max_right (⊥ : EReal) (-⊥)) h)

section Pre
open Cert.Pre_finite_factors

variable (a : FVec Ideal S1572864 .f32) (h : FVec Ideal S6x4x256x640 .f32) (s : FVec Ideal S1536x640 .f32)

/-- The basis products one after the other. -/
noncomputable def flat : FVec Ideal S3932160 .f32 := shapeCast S3932160 h Facts.shapeCasts_S6x4x256x640_S3932160

/-- The coefficients, then the basis products. -/
noncomputable def both : FVec Ideal S5505024 .f32 :=
  concatenate S5505024 0 [⟨S1572864, a⟩, ⟨S3932160, flat h⟩] Facts.concatenates_S1572864_S3932160_S5505024_d0

/-- Where the coefficients lie … -/
theorem both_left (i : Fin 1572864) : both a h (ix1 (⟨i.val, by omega⟩ : Fin 5505024)) = a (ix1 i) :=
  concatenate_apply_piece (t := S5505024) 0 [⟨S1572864, a⟩, ⟨S3932160, flat h⟩] _ _ 0 (by simp) S1572864 a rfl rfl 0 rfl
    (ix1 i) (fun b hb => match b with | ⟨0, _⟩ => absurd rfl hb) (Nat.zero_add _)

/-- … and where the basis products do. -/
theorem both_right (i : Fin 3932160) : both a h (ix1 (⟨1572864 + i.val, by omega⟩ : Fin 5505024)) = flat h (ix1 i) :=
  concatenate_apply_piece (t := S5505024) 0 [⟨S1572864, a⟩, ⟨S3932160, flat h⟩] _ _ 1 (by simp) S3932160 (flat h) rfl rfl
    1572864 rfl (ix1 i) (fun b hb => match b with | ⟨0, _⟩ => absurd rfl hb) rfl

/-- Where one basis product lies among them. -/
def flatPos (g : Fin 6) (b : Fin 4) (n : Fin 256) (o : Fin 640) : Fin 3932160 :=
  ⟨g.val * 655360 + b.val * 163840 + n.val * 640 + o.val, by omega⟩

theorem flat_apply (g : Fin 6) (b : Fin 4) (n : Fin 256) (o : Fin 640) :
    flat h (ix1 (flatPos g b n o)) = h (ix4 g b n o) := by
  unfold flat
  refine shapeCast_apply _ _ (ix1 (flatPos g b n o)) (ix4 g b n o) ?_
  rw [rowMajor_val1, rowMajor_val4 _ 655360 163840 640 rfl rfl rfl]
  rfl

variable {a h s}

/-- Under the precondition every entry of the two is real … -/
theorem both_real (hp : fn (F := Ideal) a h s = fun _ => 1#1) : Real (both a h) := fun i =>
  real_of_abs (lt_of_cmp (congrFun hp i))

/-- … so the coefficients are real … -/
theorem left_real (hp : fn (F := Ideal) a h s = fun _ => 1#1) : Real a := fun i => by
  obtain ⟨i, rfl⟩ : ∃ i' : Fin 1572864, i = ix1 i' := ⟨i 0, eq_ix1 i⟩
  rw [← both_left a h i]
  exact both_real hp _

/-- … and so are the basis products. -/
theorem right_real (hp : fn (F := Ideal) a h s = fun _ => 1#1) : Real h := fun i => by
  obtain ⟨g, b, n, o, rfl⟩ : ∃ (g : Fin 6) (b : Fin 4) (n : Fin 256) (o : Fin 640), i = ix4 g b n o :=
    ⟨i 0, i 1, i 2, i 3, eq_ix4 i⟩
  rw [← flat_apply h g b n o, ← both_right a h]
  exact both_real hp _

end Pre

/-- The claim on the two runs. -/
theorem algebraic : Cert.algebraic_AggregateIdeal_AggregateReferenceIdeal_pre_finite_factors := by
  intro m g m' g' hpre hagree
  refine ⟨fun c => summed (AggArr.A m c) (AggArr.H m c) (AggArr.S m c), ?_, ?_⟩
  · refine (θ_run Cert.AggregateIdeal.defs _ _).mono (fun r h c => ?_) (Cert.AggregateIdeal.Value.run_blocks m g)
    obtain ⟨h0, ha⟩ := h c
    exact ⟨h0.trans (AggArr.final3 m c (left_real (hpre c)) (right_real (hpre c))), ha⟩
  · refine (θ_run Cert.AggregateReferenceIdeal.defs _ _).mono (fun r h c => ?_) (Cert.AggregateReferenceIdeal.Value.run m' g')
    obtain ⟨h0, ha⟩ := h c
    obtain ⟨e0, e1, e2⟩ := hagree c
    refine ⟨h0.trans ((AggRef.result_eq _ _ _).trans ?_), ha⟩
    rw [e0, e1, e2]
    rfl

end AggAgree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.Agree
public import proofs.«01_k».proof.Proof.AggAgree
public import proofs.«01_k».proof.Proof.Gen.Aggregate
public import proofs.«01_k».proof.Proof.Gen.Aggregate.Skeleton
public import proofs.«01_k».proof.Proof.Gen.Aggregate.Launch
public import proofs.«01_k».proof.Proof.Gen.Aggregate.Points
public import proofs.«01_k».proof.Proof.Gen.Aggregate.Frame
public import proofs.«01_k».proof.Proof.Gen.AggregateIdeal
public import proofs.«01_k».proof.Proof.Gen.AggregateIdeal.Skeleton
public import proofs.«01_k».proof.Proof.Gen.AggregateIdeal.Launch
public import proofs.«01_k».proof.Proof.Gen.AggregateIdeal.Points
public import proofs.«01_k».proof.Proof.Gen.AggregateIdeal.Frame
public import proofs.«01_k».proof.Proof.Gen.AggregateReferenceIdeal
public import proofs.«01_k».proof.Proof.Gen.Pre_finite_factors
public import proofs.«01_k».proof.Proof.Gen.AggregateIdeal.Value
public import proofs.«01_k».proof.Proof.Gen.AggregateReferenceIdeal.Run
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem

/-- The frame of the aggregation's reference, a program of host operations: its arguments are those of its run, and it has no
    semaphore whose counter could end elsewhere than at zero. -/
theorem aggRefFrame (m : (ℓ : Loc Cert.AggregateReferenceIdeal.nD Cert.AggregateReferenceIdeal.τ
      Cert.AggregateReferenceIdeal.sig) → Buf (Elt Ideal) ℓ) (ρ : Dev Cert.AggregateReferenceIdeal.nD → PrngReg) :
    θ_run (Cert.AggregateReferenceIdeal.defs (F := Ideal))
      (onTc (τ := Cert.AggregateReferenceIdeal.τ) (Cert.AggregateReferenceIdeal.main (F := Ideal))) ⟨m, fun _ => 0, ρ⟩
      fun r => (∀ c : Dev Cert.AggregateReferenceIdeal.nD,
        r.2.mem (c.tc.loc Cert.AggregateReferenceIdeal.main_arg0) = m (c.tc.loc Cert.AggregateReferenceIdeal.main_arg0)
        ∧ r.2.mem (c.tc.loc Cert.AggregateReferenceIdeal.main_arg1) = m (c.tc.loc Cert.AggregateReferenceIdeal.main_arg1)
        ∧ r.2.mem (c.tc.loc Cert.AggregateReferenceIdeal.main_arg2) = m (c.tc.loc Cert.AggregateReferenceIdeal.main_arg2))
        ∧ r.2.sem = fun _ => 0 :=
  θ_run_mono (Cert.AggregateReferenceIdeal.Value.run (F := Ideal) m ρ) fun r h =>
    ⟨fun c => (h c).2, sem_eq_zero_of_no_sems (by rfl) r.2⟩

/-- The claim: the frames are generated or read off the runs, each kernel and its ideal are one text, and the values are
    `Agree.algebraic` and `AggAgree.algebraic`. -/
theorem claim : Cert.Claim := ⟨Cert.Kernel.Gen.facts, Cert.KernelIdeal.Gen.facts, Cert.ReferenceIdeal.Gen.facts,
  Cert.Aggregate.Gen.facts, Cert.AggregateIdeal.Gen.facts, Cert.AggregateReferenceIdeal.Gen.facts, Cert.Pre_finite.Gen.facts,
  Cert.Pre_finite_factors.Gen.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, fun m ρ _ => Cert.Aggregate.Gen.frame m ρ,
  fun m ρ _ => Cert.AggregateIdeal.Gen.frame m ρ, fun m ρ _ => Cert.AggregateIdeal.Gen.frame m ρ,
  fun m ρ _ => aggRefFrame m ρ, fun m ρ _ => aggRefFrame m ρ,
  trivial, Agree.algebraic, trivial, AggAgree.algebraic⟩

end Cert.Proof

end
